-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2x256 : Shape := ⟨2, ![2, 256]⟩
abbrev S2x4x256 : Shape := ⟨3, ![2, 4, 256]⟩
abbrev S2x8x4x256 : Shape := ⟨4, ![2, 8, 4, 256]⟩
abbrev S4 : Shape := ⟨1, ![4]⟩
abbrev S8 : Shape := ⟨1, ![8]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S2x1x256 : Shape := ⟨3, ![2, 1, 256]⟩
abbrev S2x1x4x256 : Shape := ⟨4, ![2, 1, 4, 256]⟩
abbrev S1x8x4x256 : Shape := ⟨4, ![1, 8, 4, 256]⟩
abbrev S8x4x256 : Shape := ⟨3, ![8, 4, 256]⟩
abbrev S32x256 : Shape := ⟨2, ![32, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S2x256, .f32⟩
  | .local _ .vmem, ⟨0, _⟩ => ⟨S2x4x256, .f32⟩
  | .local _ .vmem, ⟨1, _⟩ => ⟨S2x8x4x256, .f32⟩
  | .local _ .vmem, ⟨2, _⟩ => ⟨S256x256, .f32⟩
  | .local _ .vmem, ⟨3, _⟩ => ⟨S2x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v6 : BitVec 32 := Scalar.addi v2 c8_i32_0
  let c32_i32_1 : BitVec 32 := 32#32
  let v7 : BitVec 32 := Scalar.remsi v6 c32_i32_1
  let c1_i32_3 : BitVec 32 := 1#32
  let v8 : BitVec 32 := Scalar.muli v7 c1_i32_3
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v10 : BitVec 32 := Scalar.addi v2 c16_i32
  let c32_i32_4 : BitVec 32 := 32#32
  let v11 : BitVec 32 := Scalar.remsi v10 c32_i32_4
  let c1_i32_6 : BitVec 32 := 1#32
  let v12 : BitVec 32 := Scalar.muli v11 c1_i32_6
  let v13 : BitVec 32 := Scalar.addi c0_i32_7 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v14 : BitVec 32 := Scalar.addi v2 c24_i32
  let c32_i32_8 : BitVec 32 := 32#32
  let v15 : BitVec 32 := Scalar.remsi v14 c32_i32_8
  let c1_i32_10 : BitVec 32 := 1#32
  let v16 : BitVec 32 := Scalar.muli v15 c1_i32_10
  let v17 : BitVec 32 := Scalar.addi c0_i32_11 v16
  v17.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_12 : BitVec 32 := 1#32
  let v18 : BitVec 32 := Scalar.addi v3 c1_i32_12
  let c8_i32_13 : BitVec 32 := 8#32
  let v19 : BitVec 32 := Scalar.remsi v18 c8_i32_13
  let v20 : BitVec 32 := Scalar.addi v4 v19
  let c1_i32_15 : BitVec 32 := 1#32
  let v21 : BitVec 32 := Scalar.muli v20 c1_i32_15
  let v22 : BitVec 32 := Scalar.addi c0_i32_16 v21
  v22.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c2_i32 : BitVec 32 := 2#32
  let v23 : BitVec 32 := Scalar.addi v3 c2_i32
  let c8_i32_17 : BitVec 32 := 8#32
  let v24 : BitVec 32 := Scalar.remsi v23 c8_i32_17
  let v25 : BitVec 32 := Scalar.addi v4 v24
  let c1_i32_19 : BitVec 32 := 1#32
  let v26 : BitVec 32 := Scalar.muli v25 c1_i32_19
  let v27 : BitVec 32 := Scalar.addi c0_i32_20 v26
  v27.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c3_i32 : BitVec 32 := 3#32
  let v28 : BitVec 32 := Scalar.addi v3 c3_i32
  let c8_i32_21 : BitVec 32 := 8#32
  let v29 : BitVec 32 := Scalar.remsi v28 c8_i32_21
  let v30 : BitVec 32 := Scalar.addi v4 v29
  let c1_i32_23 : BitVec 32 := 1#32
  let v31 : BitVec 32 := Scalar.muli v30 c1_i32_23
  let v32 : BitVec 32 := Scalar.addi c0_i32_24 v31
  v32.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c4_i32 : BitVec 32 := 4#32
  let v33 : BitVec 32 := Scalar.addi v3 c4_i32
  let c8_i32_25 : BitVec 32 := 8#32
  let v34 : BitVec 32 := Scalar.remsi v33 c8_i32_25
  let v35 : BitVec 32 := Scalar.addi v4 v34
  let c1_i32_27 : BitVec 32 := 1#32
  let v36 : BitVec 32 := Scalar.muli v35 c1_i32_27
  let v37 : BitVec 32 := Scalar.addi c0_i32_28 v36
  v37.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c5_i32 : BitVec 32 := 5#32
  let v38 : BitVec 32 := Scalar.addi v3 c5_i32
  let c8_i32_29 : BitVec 32 := 8#32
  let v39 : BitVec 32 := Scalar.remsi v38 c8_i32_29
  let v40 : BitVec 32 := Scalar.addi v4 v39
  let c1_i32_31 : BitVec 32 := 1#32
  let v41 : BitVec 32 := Scalar.muli v40 c1_i32_31
  let v42 : BitVec 32 := Scalar.addi c0_i32_32 v41
  v42.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c6_i32 : BitVec 32 := 6#32
  let v43 : BitVec 32 := Scalar.addi v3 c6_i32
  let c8_i32_33 : BitVec 32 := 8#32
  let v44 : BitVec 32 := Scalar.remsi v43 c8_i32_33
  let v45 : BitVec 32 := Scalar.addi v4 v44
  let c1_i32_35 : BitVec 32 := 1#32
  let v46 : BitVec 32 := Scalar.muli v45 c1_i32_35
  let v47 : BitVec 32 := Scalar.addi c0_i32_36 v46
  v47.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c7_i32 : BitVec 32 := 7#32
  let v48 : BitVec 32 := Scalar.addi v3 c7_i32
  let c8_i32_37 : BitVec 32 := 8#32
  let v49 : BitVec 32 := Scalar.remsi v48 c8_i32_37
  let v50 : BitVec 32 := Scalar.addi v4 v49
  let c1_i32_39 : BitVec 32 := 1#32
  let v51 : BitVec 32 := Scalar.muli v50 c1_i32_39
  let v52 : BitVec 32 := Scalar.addi c0_i32_40 v51
  v52.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v6 : BitVec 32 := Scalar.addi v2 c8_i32_0
  let c32_i32_1 : BitVec 32 := 32#32
  let v7 : BitVec 32 := Scalar.remsi v6 c32_i32_1
  let c1_i32_54 : BitVec 32 := 1#32
  let v72 : BitVec 32 := Scalar.muli v7 c1_i32_54
  let v73 : BitVec 32 := Scalar.addi c0_i32_55 v72
  v73.toNat
def k0_dev12 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v10 : BitVec 32 := Scalar.addi v2 c16_i32
  let c32_i32_4 : BitVec 32 := 32#32
  let v11 : BitVec 32 := Scalar.remsi v10 c32_i32_4
  let c1_i32_64 : BitVec 32 := 1#32
  let v82 : BitVec 32 := Scalar.muli v11 c1_i32_64
  let v83 : BitVec 32 := Scalar.addi c0_i32_65 v82
  v83.toNat
def k0_dev13 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v14 : BitVec 32 := Scalar.addi v2 c24_i32
  let c32_i32_8 : BitVec 32 := 32#32
  let v15 : BitVec 32 := Scalar.remsi v14 c32_i32_8
  let c1_i32_74 : BitVec 32 := 1#32
  let v92 : BitVec 32 := Scalar.muli v15 c1_i32_74
  let v93 : BitVec 32 := Scalar.addi c0_i32_75 v92
  v93.toNat
def k0_dev14 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_12 : BitVec 32 := 1#32
  let v18 : BitVec 32 := Scalar.addi v3 c1_i32_12
  let c8_i32_13 : BitVec 32 := 8#32
  let v19 : BitVec 32 := Scalar.remsi v18 c8_i32_13
  let v20 : BitVec 32 := Scalar.addi v4 v19
  let c1_i32_115 : BitVec 32 := 1#32
  let v126 : BitVec 32 := Scalar.muli v20 c1_i32_115
  let v127 : BitVec 32 := Scalar.addi c0_i32_116 v126
  v127.toNat
def k0_dev15 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c2_i32 : BitVec 32 := 2#32
  let v23 : BitVec 32 := Scalar.addi v3 c2_i32
  let c8_i32_17 : BitVec 32 := 8#32
  let v24 : BitVec 32 := Scalar.remsi v23 c8_i32_17
  let v25 : BitVec 32 := Scalar.addi v4 v24
  let c1_i32_123 : BitVec 32 := 1#32
  let v134 : BitVec 32 := Scalar.muli v25 c1_i32_123
  let v135 : BitVec 32 := Scalar.addi c0_i32_124 v134
  v135.toNat
def k0_dev16 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c3_i32 : BitVec 32 := 3#32
  let v28 : BitVec 32 := Scalar.addi v3 c3_i32
  let c8_i32_21 : BitVec 32 := 8#32
  let v29 : BitVec 32 := Scalar.remsi v28 c8_i32_21
  let v30 : BitVec 32 := Scalar.addi v4 v29
  let c1_i32_131 : BitVec 32 := 1#32
  let v142 : BitVec 32 := Scalar.muli v30 c1_i32_131
  let v143 : BitVec 32 := Scalar.addi c0_i32_132 v142
  v143.toNat
def k0_dev17 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c4_i32 : BitVec 32 := 4#32
  let v33 : BitVec 32 := Scalar.addi v3 c4_i32
  let c8_i32_25 : BitVec 32 := 8#32
  let v34 : BitVec 32 := Scalar.remsi v33 c8_i32_25
  let v35 : BitVec 32 := Scalar.addi v4 v34
  let c1_i32_139 : BitVec 32 := 1#32
  let v150 : BitVec 32 := Scalar.muli v35 c1_i32_139
  let v151 : BitVec 32 := Scalar.addi c0_i32_140 v150
  v151.toNat
def k0_dev18 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c5_i32 : BitVec 32 := 5#32
  let v38 : BitVec 32 := Scalar.addi v3 c5_i32
  let c8_i32_29 : BitVec 32 := 8#32
  let v39 : BitVec 32 := Scalar.remsi v38 c8_i32_29
  let v40 : BitVec 32 := Scalar.addi v4 v39
  let c1_i32_147 : BitVec 32 := 1#32
  let v158 : BitVec 32 := Scalar.muli v40 c1_i32_147
  let v159 : BitVec 32 := Scalar.addi c0_i32_148 v158
  v159.toNat
def k0_dev19 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c6_i32 : BitVec 32 := 6#32
  let v43 : BitVec 32 := Scalar.addi v3 c6_i32
  let c8_i32_33 : BitVec 32 := 8#32
  let v44 : BitVec 32 := Scalar.remsi v43 c8_i32_33
  let v45 : BitVec 32 := Scalar.addi v4 v44
  let c1_i32_155 : BitVec 32 := 1#32
  let v166 : BitVec 32 := Scalar.muli v45 c1_i32_155
  let v167 : BitVec 32 := Scalar.addi c0_i32_156 v166
  v167.toNat
def k0_dev20 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c7_i32 : BitVec 32 := 7#32
  let v48 : BitVec 32 := Scalar.addi v3 c7_i32
  let c8_i32_37 : BitVec 32 := 8#32
  let v49 : BitVec 32 := Scalar.remsi v48 c8_i32_37
  let v50 : BitVec 32 := Scalar.addi v4 v49
  let c1_i32_163 : BitVec 32 := 1#32
  let v174 : BitVec 32 := Scalar.muli v50 c1_i32_163
  let v175 : BitVec 32 := Scalar.addi c0_i32_164 v174
  v175.toNat
-- ==== ReferenceIdeal.lean ====
abbrev S8192x256 : Shape := ⟨2, ![8192, 256]⟩
abbrev S_ : Shape := ⟨0, ![]⟩
abbrev S256 : Shape := ⟨1, ![256]⟩
abbrev S1x256 : Shape := ⟨2, ![1, 256]⟩
abbrev S2x256 : Shape := ⟨2, ![2, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .i32⟩
  | .hbm, ⟨2, _⟩ => ⟨S_, .f32⟩
  | .hbm, ⟨3, _⟩ => ⟨S_, .i32⟩
  | .hbm, ⟨4, _⟩ => ⟨S256, .f32⟩
  | .hbm, ⟨5, _⟩ => ⟨S256, .i32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S1x256, .f32⟩
  | .hbm, ⟨11, _⟩ => ⟨S2x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Peers.lean ====
/- The mesh of the kernel: 32 devices in four columns of eight.  Every device exchanges first with the
   three devices at its own position in the other columns, then with the seven others of its column. -/
module

public import proofs.«01_k».proof.Proof.Gen.KernelIdeal
public import Idealize.ShloMosaic.Lib.Tactic

@[expose] public section

namespace Peer

open Cert.KernelIdeal Cert.KernelIdeal.Gen
open Idealize.ShloMosaic Idealize.ShloMosaic.TcCoe

/-- The device eight times `d` further round. -/
def zp (d : Nat) (c : Dev nD) : Dev nD := ⟨(c.val + 8 * d) % 32, Nat.mod_lt _ (by decide)⟩

/-- The device `k` further round inside the group of eight. -/
def pp (k : Nat) (c : Dev nD) : Dev nD :=
  ⟨8 * (c.val / 8) + (c.val % 8 + k) % 8, by have := c.isLt; simp only [nD] at this ⊢; omega⟩

/-- The ten exchanges of a device: three across the groups, seven inside its own. -/
abbrev D : Type := Fin 3 ⊕ Fin 7

/-- The device an exchange goes to. -/
def peer : D → Dev nD → Dev nD
  | .inl d, c => zp (d.val + 1) c
  | .inr k, c => pp (k.val + 1) c

/-- The exchange that goes back. -/
def inv : D → D
  | .inl d => .inl d.rev
  | .inr k => .inr k.rev

/-- Going back twice is the exchange itself. -/
theorem inv_inv (e : D) : inv (inv e) = e := by revert e; decide

/-- Going back arrives where one came from. -/
theorem peer_inv_peer (e : D) (c : Dev nD) : peer (inv e) (peer e c) = c := by
  revert e c; decide +kernel

/-- Going back first and then forth arrives where one came from. -/
theorem peer_peer_inv (e : D) (c : Dev nD) : peer e (peer (inv e) c) = c := by
  have := peer_inv_peer (inv e) c; rwa [inv_inv] at this

/-- An exchange is a rearrangement of the devices. -/
def peerEquiv (e : D) : Dev nD ≃ Dev nD :=
  ⟨peer e, peer (inv e), peer_inv_peer e, peer_peer_inv e⟩

/-- What an exchange counts for on the readiness semaphore of the device it reaches. -/
def units : D → ℕ
  | .inl _ => 8
  | .inr _ => 1

/-- Every signal is of at least one unit. -/
theorem units_pos (e : D) : 0 < units e := by revert e; decide

/-- The device whose row lies in slot `j` of the first gathering on device `c`. -/
def zsrc (j : Fin 4) (c : Dev nD) : Dev nD := zp (4 - j.val) c

/-- The device whose slab lies in slot `k` of the second gathering on device `c`. -/
def psrc (k : Fin 8) (c : Dev nD) : Dev nD := pp (8 - k.val) c

/-- Slot 0 of the first gathering is the device's own. -/
theorem zsrc_zero (c : Dev nD) : zsrc 0 c = c := by revert c; decide +kernel
/-- Slot 0 of the second gathering is the device's own. -/
theorem psrc_zero (c : Dev nD) : psrc 0 c = c := by revert c; decide +kernel
/-- A transfer of the first hop lands in the slot of its sender. -/
theorem zsrc_peer (d : Fin 3) (c : Dev nD) : zsrc d.succ (peer (.inl d) c) = c := by
  revert d c; decide +kernel
/-- A transfer of the second hop lands in the slot of its sender. -/
theorem psrc_peer (k : Fin 7) (c : Dev nD) : psrc k.succ (peer (.inr k) c) = c := by
  revert k c; decide +kernel

/-! ### The devices the kernel addresses -/

/-- The peer that printed device number 1 is. -/
theorem dev1_eq (c : Dev nD) : (⟨k0_dev1 c, k0_dev1_lt c⟩ : Dev nD) = peer (.inl 0) c := by
  revert c; decide +kernel
/-- The peer that printed device number 2 is. -/
theorem dev2_eq (c : Dev nD) : (⟨k0_dev2 c, k0_dev2_lt c⟩ : Dev nD) = peer (.inl 1) c := by
  revert c; decide +kernel
/-- The peer that printed device number 3 is. -/
theorem dev3_eq (c : Dev nD) : (⟨k0_dev3 c, k0_dev3_lt c⟩ : Dev nD) = peer (.inl 2) c := by
  revert c; decide +kernel
/-- The peer that printed device number 4 is. -/
theorem dev4_eq (c : Dev nD) : (⟨k0_dev4 c, k0_dev4_lt c⟩ : Dev nD) = peer (.inr 0) c := by
  revert c; decide +kernel
/-- The peer that printed device number 5 is. -/
theorem dev5_eq (c : Dev nD) : (⟨k0_dev5 c, k0_dev5_lt c⟩ : Dev nD) = peer (.inr 1) c := by
  revert c; decide +kernel
/-- The peer that printed device number 6 is. -/
theorem dev6_eq (c : Dev nD) : (⟨k0_dev6 c, k0_dev6_lt c⟩ : Dev nD) = peer (.inr 2) c := by
  revert c; decide +kernel
/-- The peer that printed device number 7 is. -/
theorem dev7_eq (c : Dev nD) : (⟨k0_dev7 c, k0_dev7_lt c⟩ : Dev nD) = peer (.inr 3) c := by
  revert c; decide +kernel
/-- The peer that printed device number 8 is. -/
theorem dev8_eq (c : Dev nD) : (⟨k0_dev8 c, k0_dev8_lt c⟩ : Dev nD) = peer (.inr 4) c := by
  revert c; decide +kernel
/-- The peer that printed device number 9 is. -/
theorem dev9_eq (c : Dev nD) : (⟨k0_dev9 c, k0_dev9_lt c⟩ : Dev nD) = peer (.inr 5) c := by
  revert c; decide +kernel
/-- The peer that printed device number 10 is. -/
theorem dev10_eq (c : Dev nD) : (⟨k0_dev10 c, k0_dev10_lt c⟩ : Dev nD) = peer (.inr 6) c := by
  revert c; decide +kernel
/-- The peer that printed device number 11 is. -/
theorem dev11_eq (c : Dev nD) : (⟨k0_dev11 c, k0_dev11_lt c⟩ : Dev nD) = peer (.inl 0) c := by
  revert c; decide +kernel
/-- The peer that printed device number 12 is. -/
theorem dev12_eq (c : Dev nD) : (⟨k0_dev12 c, k0_dev12_lt c⟩ : Dev nD) = peer (.inl 1) c := by
  revert c; decide +kernel
/-- The peer that printed device number 13 is. -/
theorem dev13_eq (c : Dev nD) : (⟨k0_dev13 c, k0_dev13_lt c⟩ : Dev nD) = peer (.inl 2) c := by
  revert c; decide +kernel
/-- The peer that printed device number 14 is. -/
theorem dev14_eq (c : Dev nD) : (⟨k0_dev14 c, k0_dev14_lt c⟩ : Dev nD) = peer (.inr 0) c := by
  revert c; decide +kernel
/-- The peer that printed device number 15 is. -/
theorem dev15_eq (c : Dev nD) : (⟨k0_dev15 c, k0_dev15_lt c⟩ : Dev nD) = peer (.inr 1) c := by
  revert c; decide +kernel
/-- The peer that printed device number 16 is. -/
theorem dev16_eq (c : Dev nD) : (⟨k0_dev16 c, k0_dev16_lt c⟩ : Dev nD) = peer (.inr 2) c := by
  revert c; decide +kernel
/-- The peer that printed device number 17 is. -/
theorem dev17_eq (c : Dev nD) : (⟨k0_dev17 c, k0_dev17_lt c⟩ : Dev nD) = peer (.inr 3) c := by
  revert c; decide +kernel
/-- The peer that printed device number 18 is. -/
theorem dev18_eq (c : Dev nD) : (⟨k0_dev18 c, k0_dev18_lt c⟩ : Dev nD) = peer (.inr 4) c := by
  revert c; decide +kernel
/-- The peer that printed device number 19 is. -/
theorem dev19_eq (c : Dev nD) : (⟨k0_dev19 c, k0_dev19_lt c⟩ : Dev nD) = peer (.inr 5) c := by
  revert c; decide +kernel
/-- The peer that printed device number 20 is. -/
theorem dev20_eq (c : Dev nD) : (⟨k0_dev20 c, k0_dev20_lt c⟩ : Dev nD) = peer (.inr 6) c := by
  revert c; decide +kernel

end Peer
-- ==== Proof.Slots.lean ====
/- The slots of the two gatherings, as elements of their buffers, and the contents every slot ends
   with: what a store and what a landing leave there. -/
module

public import proofs.«01_k».proof.Proof.Peers
public import proofs.«01_k».proof.Proof.Gen.KernelIdeal.Skeleton
public import Idealize.ShloMosaic.Lib.Pipeline.Value
public import Idealize.ShloMosaic.Lib.Exec.Geometry
public import Idealize.ShloMosaic.Lib.ValueLayout

@[expose] public section

noncomputable section

namespace Peer

open Cert.KernelIdeal Cert.KernelIdeal.Gen
open Idealize.ShloMosaic Idealize.ShloMosaic.TcCoe Idealize.ShloMosaic.ValueIdx

variable {F : FTy → Type} [FloatOps F]

/-! ### Indices by their coordinates -/

/-- An index of the result is a pair. -/
theorem ex2 (i : S2x256.Idx) : ∃ (a : Fin 2) (l : Fin 256), i = ix2 a l := ⟨_, _, eq_ix2 i⟩
/-- An index of the first gathering is a triple. -/
theorem ex3 (i : S2x4x256.Idx) : ∃ (a : Fin 2) (j : Fin 4) (l : Fin 256), i = ix3 a j l := ⟨_, _, _, eq_ix3 i⟩
/-- An index of the second gathering is a quadruple. -/
theorem ex4 (i : S2x8x4x256.Idx) : ∃ (a : Fin 2) (k : Fin 8) (j : Fin 4) (l : Fin 256), i = ix4 a k j l :=
  ⟨_, _, _, _, eq_ix4 i⟩
/-- An index of a row is its column. -/
theorem exRow (y : S1x256.Idx) : ∃ l : Fin 256, y = ix2 (0 : Fin 1) l := by
  obtain ⟨a, l, rfl⟩ : ∃ (a : Fin 1) (l : Fin 256), y = ix2 a l := ⟨_, _, eq_ix2 y⟩
  obtain rfl : a = 0 := Subsingleton.elim _ _
  exact ⟨l, rfl⟩
/-- An index of a row in a slot is its column. -/
theorem exUnit (y : S1x1x256.Idx) : ∃ l : Fin 256, y = ix3 (0 : Fin 1) (0 : Fin 1) l := by
  obtain ⟨a, b, l, rfl⟩ : ∃ (a b : Fin 1) (l : Fin 256), y = ix3 a b l := ⟨_, _, _, eq_ix3 y⟩
  obtain rfl : a = 0 := Subsingleton.elim _ _
  obtain rfl : b = 0 := Subsingleton.elim _ _
  exact ⟨l, rfl⟩
/-- An index of a slab is a row, a slot and a column. -/
theorem exSlab (y : S2x1x4x256.Idx) : ∃ (a : Fin 2) (j : Fin 4) (l : Fin 256), y = ix4 a (0 : Fin 1) j l := by
  obtain ⟨a, b, j, l, rfl⟩ : ∃ (a : Fin 2) (b : Fin 1) (j : Fin 4) (l : Fin 256), y = ix4 a b j l := ⟨_, _, _, _, eq_ix4 y⟩
  obtain rfl : b = 0 := Subsingleton.elim _ _
  exact ⟨a, j, l, rfl⟩

/-- There are two rows. -/
theorem fin2 (a : Fin 2) : a = 0 ∨ a = 1 := by revert a; decide

/-- A write through a view, at the place of an element of the view. -/
theorem write_at {Val : EltTy → Type} {sg : RefSig} {κ : Kind} {sp : Space} {S : Shape} {e : EltTy} (v : View sg κ sp S e)
    (f : v.ty.Contents Val) (w : S.Idx → Val e) {y : S.Idx} {i : v.ty.Idx} (h : v.emb y = i) :
    v.write Val f w Finset.univ i = _root_.cast (congrArg Val v.elt_eq.symm) (w y) := by
  subst h; exact View.write_emb_of_mem _ _ (Finset.mem_univ _)

/-! ### The slots -/

/-- The first gathering, whole. -/
abbrev gzM : Memref sig .tc .vmem S2x4x256 .f32 := Memref.whole cc0_scratch0
/-- The second gathering, whole. -/
abbrev gpM : Memref sig .tc .vmem S2x8x4x256 .f32 := Memref.whole cc0_scratch1

/-- A slot lies within the first gathering. -/
theorem zinb (d : Fin 4) : ∀ a, (![0, d.val, 0] : Fin 3 → Nat) a + S2x1x256.size a ≤ S2x4x256.size a := by
  revert d; decide
/-- A slot lies within the second gathering. -/
theorem pinb (k : Fin 8) : ∀ a, (![0, k.val, 0, 0] : Fin 4 → Nat) a + S2x1x4x256.size a ≤ S2x8x4x256.size a := by
  revert k; decide

/-- Slot `d` of the first gathering. -/
abbrev zslot (d : Fin 4) : Memref sig .tc .vmem S2x256 .f32 :=
  (gzM.slice (Rect.unit (s := S2x4x256) ![0, d.val, 0] S2x1x256.size (zinb d)) (fun _ => rfl)).squeeze S2x256
    squeezes_S2x1x256_S2x256
/-- Slot `k` of the second gathering. -/
abbrev pslot (k : Fin 8) : Memref sig .tc .vmem S2x4x256 .f32 :=
  (gpM.slice (Rect.unit (s := S2x8x4x256) ![0, k.val, 0, 0] S2x1x4x256.size (pinb k)) (fun _ => rfl)).squeeze S2x4x256
    squeezes_S2x1x4x256_S2x4x256

/-- The slot an element of the first gathering lies in. -/
abbrev zat (i : S2x4x256.Idx) : Fin 4 := i 1
/-- The row an element of the first gathering lies in. -/
abbrev zrow (i : S2x4x256.Idx) : Fin 2 := i 0
/-- The slot an element of the second gathering lies in. -/
abbrev pat (i : S2x8x4x256.Idx) : Fin 8 := i 1

/-- The elements of slot `d`. -/
def zset (d : Fin 4) : Finset S2x4x256.Idx := Finset.univ.filter fun i => zat i = d
/-- The elements of slot `k`. -/
def pset (k : Fin 8) : Finset S2x8x4x256.Idx := Finset.univ.filter fun i => pat i = k

/-- Which elements lie in a slot of the first gathering. -/
theorem mem_zset {d : Fin 4} {i : S2x4x256.Idx} : i ∈ zset d ↔ zat i = d := by simp [zset]
/-- Which elements lie in a slot of the second gathering. -/
theorem mem_pset {k : Fin 8} {i : S2x8x4x256.Idx} : i ∈ pset k ↔ pat i = k := by simp [pset]

/-- Slots of the first gathering are disjoint. -/
theorem zset_disjoint {d d' : Fin 4} (h : d ≠ d') : Disjoint (zset d) (zset d') :=
  Finset.disjoint_left.2 fun i hi hi' => h ((mem_zset.1 hi).symm.trans (mem_zset.1 hi'))
/-- Slots of the second gathering are disjoint. -/
theorem pset_disjoint {k k' : Fin 8} (h : k ≠ k') : Disjoint (pset k) (pset k') :=
  Finset.disjoint_left.2 fun i hi hi' => h ((mem_pset.1 hi).symm.trans (mem_pset.1 hi'))
/-- The slots cover the first gathering. -/
theorem zset_cover : (Finset.univ : Finset (Fin 4)).biUnion zset = Finset.univ := by
  ext i; simp only [Finset.mem_biUnion, Finset.mem_univ, true_and, iff_true]; exact ⟨zat i, mem_zset.2 rfl⟩
/-- The slots cover the second gathering. -/
theorem pset_cover : (Finset.univ : Finset (Fin 8)).biUnion pset = Finset.univ := by
  ext i; simp only [Finset.mem_biUnion, Finset.mem_univ, true_and, iff_true]; exact ⟨pat i, mem_pset.2 rfl⟩

/-- Where slot `d` keeps its element `(a, l)`. -/
theorem zslot_emb (d : Fin 4) (a : Fin 2) (l : Fin 256) : (zslot d).view.emb (ix2 a l) = (ix3 a d l : S2x4x256.Idx) := by
  have h : Shape.reshapeEquiv (s := S2x1x256) (s' := S2x256) (squeezes_S2x1x256_S2x256).numel_eq (ix2 a l)
      = (ix3 a (0 : Fin 1) l : S2x1x256.Idx) :=
    Shape.reshapeEquiv_eq_of_rowMajor _ (by
      rw [Shape.rowMajor_val_three, Shape.rowMajor_val_two]
      show (a.val * 1 + 0) * 256 + l.val = a.val * 256 + l.val; omega)
  show (Rect.unit (s := S2x4x256) ![0, d.val, 0] S2x1x256.size (zinb d)).emb
      (Shape.reshapeEquiv (s := S2x1x256) (s' := S2x256) (squeezes_S2x1x256_S2x256).numel_eq (ix2 a l)) = _
  rw [h]
  funext x; apply Fin.ext; rw [Rect.emb_apply]
  match x with
  | ⟨0, _⟩ => show 0 + 1 * a.val = a.val; omega
  | ⟨1, _⟩ => show d.val + 1 * 0 = d.val; omega
  | ⟨2, _⟩ => show 0 + 1 * l.val = l.val; omega

/-- Where slot `k` keeps its element `(a, j, l)`. -/
theorem pslot_emb (k : Fin 8) (a : Fin 2) (j : Fin 4) (l : Fin 256) :
    (pslot k).view.emb (ix3 a j l) = (ix4 a k j l : S2x8x4x256.Idx) := by
  have h : Shape.reshapeEquiv (s := S2x1x4x256) (s' := S2x4x256) (squeezes_S2x1x4x256_S2x4x256).numel_eq (ix3 a j l)
      = (ix4 a (0 : Fin 1) j l : S2x1x4x256.Idx) :=
    Shape.reshapeEquiv_eq_of_rowMajor _ (by
      rw [Shape.rowMajor_val_four, Shape.rowMajor_val_three]
      show ((a.val * 1 + 0) * 4 + j.val) * 256 + l.val = (a.val * 4 + j.val) * 256 + l.val; omega)
  show (Rect.unit (s := S2x8x4x256) ![0, k.val, 0, 0] S2x1x4x256.size (pinb k)).emb
      (Shape.reshapeEquiv (s := S2x1x4x256) (s' := S2x4x256) (squeezes_S2x1x4x256_S2x4x256).numel_eq (ix3 a j l)) = _
  rw [h]
  funext x; apply Fin.ext; rw [Rect.emb_apply]
  match x with
  | ⟨0, _⟩ => show 0 + 1 * a.val = a.val; omega
  | ⟨1, _⟩ => show k.val + 1 * 0 = k.val; omega
  | ⟨2, _⟩ => show 0 + 1 * j.val = j.val; omega
  | ⟨3, _⟩ => show 0 + 1 * l.val = l.val; omega

/-- The elements that a view of a slot of the first gathering reaches. -/
theorem zslot_set (d : Fin 4) : (zslot d).view.set = zset d := by
  refine Finset.ext fun i => ⟨fun h => ?_, fun h => ?_⟩
  · obtain ⟨y, hy⟩ := View.exists_emb_of_mem_set _ h
    obtain ⟨a, l, rfl⟩ := ex2 y
    exact mem_zset.2 (congrArg zat (((zslot_emb d a l).symm.trans hy).symm))
  · obtain ⟨a, j, l, rfl⟩ := ex3 i
    obtain rfl : j = d := mem_zset.1 h
    exact (zslot_emb j a l) ▸ Finset.mem_map_of_mem _ (Finset.mem_univ _)

/-- The elements that a view of a slot of the second gathering reaches. -/
theorem pslot_set (k : Fin 8) : (pslot k).view.set = pset k := by
  refine Finset.ext fun i => ⟨fun h => ?_, fun h => ?_⟩
  · obtain ⟨y, hy⟩ := View.exists_emb_of_mem_set _ h
    obtain ⟨a, j, l, rfl⟩ := ex3 y
    exact mem_pset.2 (congrArg pat (((pslot_emb k a j l).symm.trans hy).symm))
  · obtain ⟨a, k', j, l, rfl⟩ := ex4 i
    obtain rfl : k' = k := mem_pset.1 h
    exact (pslot_emb k' a j l) ▸ Finset.mem_map_of_mem _ (Finset.mem_univ _)

/-! ### The contents -/

/-- A device's number as the kernel computes it. -/
def wordOf (c : Dev nD) : BitVec 32 := Scalar.remsi (Scalar.divsi (Dev.word c) 1#32) 32#32

/-- The blocks, one per device. -/
abbrev Blocks (F : FTy → Type) : Type := Dev nD → Vec F S256x256 .f32

/-- What device `b` contributes: in row 0 its columns' largest elements, in row 1 where they lie. -/
def contrib (x : Blocks F) (b : Dev nD) (a : Fin 2) (l : Fin 256) : F .f32 :=
  if a = 0 then k0_pay2 (x b) (ix3 (0 : Fin 1) (0 : Fin 1) l)
  else k0_pay3 (wordOf b) (x b) (ix3 (0 : Fin 1) (0 : Fin 1) l)

/-- A device contributes its maxima. -/
theorem contrib_zero (x : Blocks F) (b : Dev nD) (l : Fin 256) :
    contrib x b 0 l = k0_pay2 (x b) (ix3 (0 : Fin 1) (0 : Fin 1) l) := if_pos rfl
/-- A device contributes their rows. -/
theorem contrib_one (x : Blocks F) (b : Dev nD) (l : Fin 256) :
    contrib x b 1 l = k0_pay3 (wordOf b) (x b) (ix3 (0 : Fin 1) (0 : Fin 1) l) := if_neg (by decide)

/-- What the first gathering of device `c` ends with. -/
def GZ (x : Blocks F) (c : Dev nD) : Vec F S2x4x256 .f32 := fun i => contrib x (zsrc (i 1) c) (i 0) (i 2)

/-- What the second gathering of device `c` ends with. -/
def GP (x : Blocks F) (c : Dev nD) : Vec F S2x8x4x256 .f32 := fun i =>
  GZ x (psrc (i 1) c) (ix3 (i 0) (i 2) (i 3))

/-- A landing in a slot of the first gathering leaves what that slot ends with. -/
theorem zland (x : Blocks F) (c : Dev nD) (d : Fin 3) (fd : Vec F S2x4x256 .f32) :
    ∀ i ∈ zset d.succ, (zslot d.succ).view.write (Elt F) fd ((zslot 0).view.read (Elt F) (GZ x c)) Finset.univ i
      = GZ x (peer (.inl d) c) i := by
  intro i hi
  obtain ⟨a, j, l, rfl⟩ := ex3 i
  obtain rfl : j = d.succ := mem_zset.1 hi
  refine (write_at _ _ _ (zslot_emb d.succ a l)).trans ?_
  show GZ x c ((zslot 0).view.emb (ix2 a l)) = _
  rw [zslot_emb]
  show contrib x (zsrc 0 c) a l = contrib x (zsrc d.succ (peer (.inl d) c)) a l
  rw [zsrc_zero, zsrc_peer]

/-- A landing in a slot of the second gathering leaves what that slot ends with. -/
theorem pland (x : Blocks F) (c : Dev nD) (k : Fin 7) (fd : Vec F S2x8x4x256 .f32) :
    ∀ i ∈ pset k.succ, (pslot k.succ).view.write (Elt F) fd (gzM.view.read (Elt F) (GZ x c)) Finset.univ i
      = GP x (peer (.inr k) c) i := by
  intro i hi
  obtain ⟨a, k', j, l, rfl⟩ := ex4 i
  obtain rfl : k' = k.succ := mem_pset.1 hi
  refine (write_at _ _ _ (pslot_emb k.succ a j l)).trans ?_
  show GZ x c (ix3 a j l) = GZ x (psrc k.succ (peer (.inr k) c)) (ix3 a j l)
  rw [psrc_peer]

/-- The rectangle of row `a` of slot 0 of the first gathering. -/
abbrev rz0 : Rect S2x4x256 := Rect.unit (s := S2x4x256) ![0, 0, 0] S1x1x256.size inb_S2x4x256_S1x1x256_0_0_0
/-- Where the rows are stored. -/
abbrev rz1 : Rect S2x4x256 := Rect.unit (s := S2x4x256) ![1, 0, 0] S1x1x256.size inb_S2x4x256_S1x1x256_1_0_0

/-- Where an element of the maxima is stored. -/
theorem rz0_emb (l : Fin 256) : (gzM.access rz0).emb (ix3 (0 : Fin 1) (0 : Fin 1) l) = (ix3 (0 : Fin 2) (0 : Fin 4) l : S2x4x256.Idx) := by
  show rz0.emb (ix3 (0 : Fin 1) (0 : Fin 1) l) = _
  funext x; apply Fin.ext; rw [Rect.emb_apply]
  match x with
  | ⟨0, _⟩ => rfl
  | ⟨1, _⟩ => rfl
  | ⟨2, _⟩ => show 0 + 1 * l.val = l.val; omega

/-- Where an element of the rows is stored. -/
theorem rz1_emb (l : Fin 256) : (gzM.access rz1).emb (ix3 (0 : Fin 1) (0 : Fin 1) l) = (ix3 (1 : Fin 2) (0 : Fin 4) l : S2x4x256.Idx) := by
  show rz1.emb (ix3 (0 : Fin 1) (0 : Fin 1) l) = _
  funext x; apply Fin.ext; rw [Rect.emb_apply]
  match x with
  | ⟨0, _⟩ => rfl
  | ⟨1, _⟩ => rfl
  | ⟨2, _⟩ => show 0 + 1 * l.val = l.val; omega

/-- The maxima lie in row 0 of slot 0. -/
theorem rz0_mem {i : S2x4x256.Idx} (h : i ∈ (gzM.access rz0).set) : zrow i = 0 ∧ zat i = 0 := by
  obtain ⟨y, hy⟩ := View.exists_emb_of_mem_set _ h
  obtain ⟨l, rfl⟩ := exUnit y
  rw [← (rz0_emb l).symm.trans hy]; exact ⟨rfl, rfl⟩

/-- The rows lie in row 1 of slot 0. -/
theorem rz1_mem {i : S2x4x256.Idx} (h : i ∈ (gzM.access rz1).set) : zrow i = 1 ∧ zat i = 0 := by
  obtain ⟨y, hy⟩ := View.exists_emb_of_mem_set _ h
  obtain ⟨l, rfl⟩ := exUnit y
  rw [← (rz1_emb l).symm.trans hy]; exact ⟨rfl, rfl⟩

/-- The maxima lie in slot 0. -/
theorem rz0_sub : (gzM.access rz0).set ⊆ zset 0 := fun i h => mem_zset.2 (rz0_mem h).2
/-- The rows lie in slot 0. -/
theorem rz1_sub : (gzM.access rz1).set ⊆ zset 0 := fun i h => mem_zset.2 (rz1_mem h).2

/-- The two stores of a device's own contribution leave in slot 0 what it ends with. -/
theorem zstore (x : Blocks F) (c : Dev nD) (f : Vec F S2x4x256 .f32) :
    ∀ i ∈ zset 0, (gzM.access rz1).write (Elt F) ((gzM.access rz0).write (Elt F) f (k0_pay2 (x c)) Finset.univ)
      (k0_pay3 (wordOf c) (x c)) Finset.univ i = GZ x c i := by
  intro i hi
  obtain ⟨a, j, l, rfl⟩ := ex3 i
  obtain rfl : j = 0 := mem_zset.1 hi
  have h2 : a = 0 ∨ a = 1 := fin2 a
  rcases h2 with rfl | rfl
  · have hn : (ix3 (0 : Fin 2) (0 : Fin 4) l : S2x4x256.Idx) ∉ (gzM.access rz1).setOn Finset.univ := fun h =>
      absurd (rz1_mem h).1 (by decide : (0 : Fin 2) ≠ 1)
    refine (View.write_of_not_mem _ _ _ hn).trans ((write_at _ _ _ (rz0_emb l)).trans ?_)
    show _ = contrib x (zsrc 0 c) 0 l
    rw [zsrc_zero, contrib_zero]; exact cast_eq _ _
  · refine (write_at _ _ _ (rz1_emb l)).trans ?_
    show _ = contrib x (zsrc 0 c) 1 l
    rw [zsrc_zero, contrib_one]; exact cast_eq _ _

/-- The rectangle of slot 0 of the second gathering. -/
abbrev rp0 : Rect S2x8x4x256 :=
  Rect.unit (s := S2x8x4x256) ![0, 0, 0, 0] S2x1x4x256.size inb_S2x8x4x256_S2x1x4x256_0_0_0_0

/-- Where an element of the own slab is stored. -/
theorem rp0_emb (a : Fin 2) (j : Fin 4) (l : Fin 256) :
    (gpM.access rp0).emb (ix4 a (0 : Fin 1) j l) = (ix4 a (0 : Fin 8) j l : S2x8x4x256.Idx) := by
  show rp0.emb (ix4 a (0 : Fin 1) j l) = _
  funext x; apply Fin.ext; rw [Rect.emb_apply]
  match x with
  | ⟨0, _⟩ => show 0 + 1 * a.val = a.val; omega
  | ⟨1, _⟩ => rfl
  | ⟨2, _⟩ => show 0 + 1 * j.val = j.val; omega
  | ⟨3, _⟩ => show 0 + 1 * l.val = l.val; omega

/-- The own slab lies in slot 0. -/
theorem rp0_sub : (gpM.access rp0).set ⊆ pset 0 := fun i h => by
  obtain ⟨y, hy⟩ := View.exists_emb_of_mem_set _ h
  obtain ⟨a, j, l, rfl⟩ := exSlab y
  rw [← (rp0_emb a j l).symm.trans hy]; exact mem_pset.2 rfl

/-- The own slab, read at an element. -/
theorem pay4_apply (v : Vec F S2x4x256 .f32) (a : Fin 2) (j : Fin 4) (l : Fin 256) :
    k0_pay4 v (ix4 a (0 : Fin 1) j l) = v (ix3 a j l) :=
  shapeCast_apply v _ (ix4 a (0 : Fin 1) j l) (ix3 a j l) (by
    rw [Shape.rowMajor_val_four, Shape.rowMajor_val_three]
    show (a.val * 4 + j.val) * 256 + l.val = ((a.val * 1 + 0) * 4 + j.val) * 256 + l.val; omega)

/-- The store of a device's own slab leaves in slot 0 what it ends with. -/
theorem pstore (x : Blocks F) (c : Dev nD) (f : Vec F S2x8x4x256 .f32) :
    ∀ i ∈ pset 0, (gpM.access rp0).write (Elt F) f (k0_pay4 (GZ x c)) Finset.univ i = GP x c i := by
  intro i hi
  obtain ⟨a, k, j, l, rfl⟩ := ex4 i
  obtain rfl : k = 0 := mem_pset.1 hi
  refine (write_at _ _ _ (rp0_emb a j l)).trans ?_
  refine (pay4_apply (GZ x c) a j l).trans ?_
  show _ = GZ x (psrc 0 c) (ix3 a j l)
  rw [psrc_zero]

/-! ### The result -/

/-- The two rectangles of the second gathering: all maxima, all positions. -/
abbrev ra0 : Rect S2x8x4x256 :=
  Rect.unit (s := S2x8x4x256) ![0, 0, 0, 0] S1x8x4x256.size inb_S2x8x4x256_S1x8x4x256_0_0_0_0
/-- Where all positions are loaded from. -/
abbrev ra1 : Rect S2x8x4x256 :=
  Rect.unit (s := S2x8x4x256) ![1, 0, 0, 0] S1x8x4x256.size inb_S2x8x4x256_S1x8x4x256_1_0_0_0

/-- All maxima, as loaded. -/
def tops (x : Blocks F) (c : Dev nD) : Vec F S1x8x4x256 .f32 := gpM.view.readAt (Elt F) ra0.toLoadRect (GP x c)
/-- All positions, as loaded. -/
def spots (x : Blocks F) (c : Dev nD) : Vec F S1x8x4x256 .f32 := gpM.view.readAt (Elt F) ra1.toLoadRect (GP x c)

/-- The result's buffer in local memory, and its two rows. -/
abbrev reM : Memref sig .tc .vmem S2x256 .f32 := Memref.whole cc0_scratch3
/-- Row 0 of the result's buffer. -/
abbrev rr0 : Rect S2x256 := Rect.unit (s := S2x256) ![0, 0] S1x256.size inb_S2x256_S1x256_0_0
/-- Row 1 of the result's buffer. -/
abbrev rr1 : Rect S2x256 := Rect.unit (s := S2x256) ![1, 0] S1x256.size inb_S2x256_S1x256_1_0

/-- The result of device `c`, row and column. -/
def outAt (x : Blocks F) (c : Dev nD) (a : Fin 2) (l : Fin 256) : F .f32 :=
  if a = 0 then k0_pay8 (k0_pay6 (tops x c)) (ix2 (0 : Fin 1) l)
  else k0_pay9 (k0_pay7 (tops x c) (spots x c)) (ix2 (0 : Fin 1) l)

/-- Row 0 of the result, as computed. -/
theorem outAt_zero (x : Blocks F) (c : Dev nD) (l : Fin 256) :
    outAt x c 0 l = k0_pay8 (k0_pay6 (tops x c)) (ix2 (0 : Fin 1) l) := if_pos rfl
/-- Row 1 of the result, as computed. -/
theorem outAt_one (x : Blocks F) (c : Dev nD) (l : Fin 256) :
    outAt x c 1 l = k0_pay9 (k0_pay7 (tops x c) (spots x c)) (ix2 (0 : Fin 1) l) := if_neg (by decide)

/-- The result of device `c`. -/
def out (x : Blocks F) (c : Dev nD) : Vec F S2x256 .f32 := fun i => outAt x c (i 0) (i 1)

/-- Where an element of row 0 is stored. -/
theorem rr0_emb (l : Fin 256) : (reM.access rr0).emb (ix2 (0 : Fin 1) l) = (ix2 (0 : Fin 2) l : S2x256.Idx) := by
  show rr0.emb (ix2 (0 : Fin 1) l) = _
  funext x; apply Fin.ext; rw [Rect.emb_apply]
  match x with
  | ⟨0, _⟩ => rfl
  | ⟨1, _⟩ => show 0 + 1 * l.val = l.val; omega

/-- Where an element of row 1 is stored. -/
theorem rr1_emb (l : Fin 256) : (reM.access rr1).emb (ix2 (0 : Fin 1) l) = (ix2 (1 : Fin 2) l : S2x256.Idx) := by
  show rr1.emb (ix2 (0 : Fin 1) l) = _
  funext x; apply Fin.ext; rw [Rect.emb_apply]
  match x with
  | ⟨0, _⟩ => rfl
  | ⟨1, _⟩ => show 0 + 1 * l.val = l.val; omega

/-- The two stores of the result leave it whole. -/
theorem rstore (x : Blocks F) (c : Dev nD) (f : Vec F S2x256 .f32) :
    (reM.access rr1).write (Elt F) ((reM.access rr0).write (Elt F) f (k0_pay8 (k0_pay6 (tops x c))) Finset.univ)
      (k0_pay9 (k0_pay7 (tops x c) (spots x c))) Finset.univ = out x c := by
  funext i
  obtain ⟨a, l, rfl⟩ := ex2 i
  have h2 : a = 0 ∨ a = 1 := fin2 a
  rcases h2 with rfl | rfl
  · have hn : (ix2 (0 : Fin 2) l : S2x256.Idx) ∉ (reM.access rr1).setOn Finset.univ := fun h => by
      obtain ⟨y, hy⟩ := View.exists_emb_of_mem_set _ h
      obtain ⟨l', rfl⟩ := exRow y
      exact absurd (congrFun ((rr1_emb l').symm.trans hy) 0) (by decide : (1 : Fin 2) ≠ 0)
    refine (View.write_of_not_mem _ _ _ hn).trans ((write_at _ _ _ (rr0_emb l)).trans ?_)
    exact (cast_eq _ _).trans (outAt_zero x c l).symm
  · refine (write_at _ _ _ (rr1_emb l)).trans ?_
    exact (cast_eq _ _).trans (outAt_one x c l).symm

end Peer
-- ==== Proof.BarCell.lean ====
/-
  A semaphore cell with ONE round of duties whose owner waits several times.

  Every duty of round 0 of a schedule is paid by one signal of its whole
  amount. So nothing is ever "in progress" on such a cell, and a wait of `k`
  units, which finds at least `k` units on the counter, returns the payloads
  of a set of duties whose amounts cover all the units consumed so far. The
  caller picks the amounts so that this determines which duties are in the set.
-/
module

public import Idealize.ShloMosaic.Lib.Rounds
public import Idealize.ShloMosaic.Lib.Tactic

@[expose] public section

noncomputable section

open Idealize.ShloMosaic Idealize.SL Idealize.SL.RA Idealize.SL.BI
open scoped Idealize.SL.BI
open Idealize.SL.BI.BIBase Idealize.SL.BI.Laws Idealize.SL.ProofMode Idealize.SL.Sem Idealize.ShloMosaic.Rounds

namespace Peer

variable {nD : Nat} {τ : Topo} {sig : RefSig} {Ix : Type} [DecidableEq Ix] {D : Type} [DecidableEq D]
variable {Val : EltTy → Type} {Name : Type} [DecidableEq Name]
variable {U : Type} [URA U] {Lvl : Type} {Λ : Labels}

local notation "𝕄" => MT nD τ sig Ix Val Name U Lvl

section Cell

variable (E : Emb (URounds (GSem nD τ sig) D) (MT nD τ sig Ix Val Name U Lvl))
variable (Rd : Schedule (GSem nD τ sig) D (MT nD τ sig Ix Val Name U Lvl))

/-- The state of the cell when its counter reads `v`: the owner has consumed `m`
    units and taken the payloads of `T`; the duties `A` have landed since, each
    with its token and payload; what is on the counter and what was consumed add
    up to the amounts of `T` and `A`. -/
def barState (g : GSem nD τ sig) (v : ℕ) : sProp 𝕄 :=
  iprop(∃ (T : Finset D) (m : ℕ) (A : Finset D),
    roundAuth E g 0 T m
    ∗ ⌜T ⊆ Rd.duties g 0 ∧ A ⊆ Rd.duties g 0 \ T ∧ v + m = Rd.amountOf g 0 T + Rd.amountOf g 0 A⌝
    ∗ bigSep T (fun d => dutyTok E g 0 d)
    ∗ bigSep A (fun d => iprop(dutyTok E g 0 d ∗ Rd.payload g 0 d)))

/-- The cell after its owner has taken the counter out: everything was taken. -/
def barClosed (g : GSem nD τ sig) : sProp 𝕄 :=
  iprop(atPos E g 0 (Rd.duties g 0) (Rd.expect g 0) ∗ bigSep (Rd.duties g 0) (fun d => dutyTok E g 0 d))

/-- What the invariant of the cell holds. -/
def barBody (g : GSem nD τ sig) : sProp 𝕄 :=
  iprop((∃ v, semVal g v ∗ barState E Rd g v) ∨ barClosed E Rd g)

/-- What the barrier's state holds can be stored in an invariant. -/
instance barState_storable [E.LandsIn (upEmb : UEmb _ 𝕄)]
    [∀ g r d, Storable (upEmb : UEmb _ 𝕄) (Rd.payload g r d)] (g : GSem nD τ sig) (v : ℕ) :
    Storable (upEmb : UEmb _ 𝕄) (barState E Rd g v) := by
  unfold barState; infer_instance

/-- So can the body of the barrier's invariant. -/
instance barBody_storable [E.LandsIn (upEmb : UEmb _ 𝕄)]
    [∀ g r d, Storable (upEmb : UEmb _ 𝕄) (Rd.payload g r d)] (g : GSem nD τ sig) :
    Storable (upEmb : UEmb _ 𝕄) (barBody E Rd g) := by
  unfold barBody barClosed; infer_instance

/-- The record that the name `κ` carries the cell's invariant. -/
abbrev barInv (κ : Name) (g : GSem nD τ sig) : sProp 𝕄 := inv κ (barBody E Rd g)

variable {g : GSem nD τ sig}

/-- A cell nobody has touched, from its launch state. -/
theorem barState_init : initState E g ⊢ barState E Rd g 0 := by
  unfold barState
  iintro ⟨Ha, -⟩
  iexists ∅, 0, ∅
  isplitl [Ha]; · iexact Ha
  isplitr; · ipureintro; simp
  rw [bigSep_empty, bigSep_empty]
  isplitr <;> iempintro

/-- The body of the invariant from the counter at zero and the launch state. -/
theorem barBody_intro : iprop(semVal g 0 ∗ initState E g) ⊢ barBody E Rd g := by
  unfold barBody
  iintro ⟨Hv, Hst⟩
  ileft
  iexists 0
  isplitl [Hv]; · iexact Hv
  iapply (barState_init E Rd) $$ Hst

/-- A duty lands: its amount goes on the counter, its token and payload into the state. -/
theorem barState_land {v : ℕ} {d : D} (hd : d ∈ Rd.duties g 0) :
    iprop(barState E Rd g v ∗ dutyTok E g 0 d ∗ Rd.payload g 0 d) ⊢ barState E Rd g (v + Rd.amount g 0 d) := by
  unfold barState
  iintro ⟨Hst, Htok, Hpay⟩
  icases Hst with ⟨%T, %m, %A, Ha, %hf, HT, HA⟩
  by_cases h1 : d ∈ T
  · iexfalso
    ihave H := (bigSep_pick (Φ := fun d => dutyTok E g 0 d) h1) $$ HT
    icases H with ⟨H1, -⟩
    iapply (dutyTok_dutyTok_false E)
    isplitl [H1] <;> iassumption
  by_cases h2 : d ∈ A
  · iexfalso
    ihave H := (bigSep_pick (Φ := fun d => iprop(dutyTok E g 0 d ∗ Rd.payload g 0 d)) h2) $$ HA
    icases H with ⟨⟨H1, -⟩, -⟩
    iapply (dutyTok_dutyTok_false E)
    isplitl [H1] <;> iassumption
  obtain ⟨hT, hA, hv⟩ := hf
  iexists T, m, insert d A
  isplitl [Ha]; · iexact Ha
  isplitr
  · ipureintro
    refine ⟨hT, Finset.insert_subset (Finset.mem_sdiff.mpr ⟨hd, h1⟩) hA, ?_⟩
    simp only [Schedule.amountOf, Finset.sum_insert h2] at hv ⊢
    omega
  isplitl [HT]; · iexact HT
  iapply (arrivals_insert E Rd h2)
  isplitl [Htok Hpay]
  · isplitl [Htok] <;> iassumption
  iexact HA

/-- A wait of `k` units the counter covers: the owner takes everything that has
    landed, and what it has taken by now covers all it has consumed. -/
theorem barState_wait {v k m : ℕ} {T : Finset D} (hl : k ≤ v) :
    iprop(barState E Rd g v ∗ atPos E g 0 T m)
      ⊢ (|==> (∃ A : Finset D, ⌜A ⊆ Rd.duties g 0 \ T ∧ m + k ≤ Rd.amountOf g 0 T + Rd.amountOf g 0 A⌝
            ∗ barState E Rd g (v - k) ∗ atPos E g 0 (T ∪ A) (m + k)
            ∗ bigSep A (fun d => Rd.payload g 0 d)) : sProp 𝕄) := by
  unfold barState
  iintro ⟨Hst, Hat⟩
  icases Hst with ⟨%T₀, %m₀, %A, Hauth, %hf, HT, HA⟩
  icombine Hauth Hat gives %hag
  obtain ⟨-, rfl, rfl⟩ := hag
  obtain ⟨hT, hA, hv⟩ := hf
  have hdis : Disjoint T A := Finset.disjoint_of_subset_right hA Finset.disjoint_sdiff
  ihave HA' := (Entails.of_eq (bigSep_sep' A (fun d => dutyTok E g 0 d) (fun d => Rd.payload g 0 d))) $$ HA
  icases HA' with ⟨Htok, Hpay⟩
  icombine Hauth Hat as H
  imod (roundAuth_atPos_move E 0 (T ∪ A) (m + k) le_rfl) $$ H with ⟨Hauth, Hat⟩
  imodintro
  iexists A
  isplitr
  · ipureintro; exact ⟨hA, by omega⟩
  isplitr [Hat Hpay]
  · iexists (T ∪ A), (m + k), ∅
    isplitl [Hauth]; · iexact Hauth
    isplitr
    · ipureintro
      refine ⟨Finset.union_subset hT (hA.trans Finset.sdiff_subset), by simp, ?_⟩
      rw [Rd.amountOf_union g 0 hdis]
      simp only [Schedule.amountOf, Finset.sum_empty] at hv ⊢
      omega
    isplitl [HT Htok]
    · iapply (toks_union E hdis)
      isplitl [HT] <;> iassumption
    rw [bigSep_empty]
    iempintro
  isplitl [Hat] <;> iassumption

/-- The owner's position refutes the cell closed. -/
theorem barClosed_atPos_false {R m : ℕ} {T : Finset D} :
    iprop(barClosed E Rd g ∗ atPos E g R T m) ⊢ (False : sProp 𝕄) := by
  unfold barClosed
  iintro ⟨⟨H, -⟩, Hat⟩
  iapply (atPos_atPos_false E)
  isplitl [H] <;> iassumption

/-- A duty's token refutes the cell closed. -/
theorem barClosed_dutyTok_false {d : D} (hd : d ∈ Rd.duties g 0) :
    iprop(barClosed E Rd g ∗ dutyTok E g 0 d) ⊢ (False : sProp 𝕄) := by
  unfold barClosed
  iintro ⟨⟨-, HT⟩, Htok⟩
  ihave H := (bigSep_pick (Φ := fun d => dutyTok E g 0 d) hd) $$ HT
  icases H with ⟨H1, -⟩
  iapply (dutyTok_dutyTok_false E)
  isplitl [H1] <;> iassumption

variable [Preorder Lvl] {κ : Name}

/-- The landing update of a signal that pays a duty. -/
theorem bar_land_atomically {d : D} (hd : d ∈ Rd.duties g 0) :
    iprop(barInv E Rd κ g ∗ dutyTok E g 0 d ∗ Rd.payload g 0 d)
      ⊢ atomically frame Set.univ (raiseSpec g (Rd.amount g 0 d)) (fun _ => iprop(emp)) := by
  iintro ⟨Hg, Htok, Hpay⟩
  imod (inv_acc (Set.mem_univ κ)) $$ Hg with ⟨Hb, Hclose⟩
  unfold barBody
  icases Hb with (⟨%v, Hv, Hst⟩ | Hcl)
  rotate_left
  · iexfalso; iapply (barClosed_dutyTok_false E Rd hd); isplitl [Hcl] <;> iassumption
  imodintro
  rw [raiseSpec_apply]
  iexists v
  isplitl [Hv]; · iexact Hv
  iintro Hv
  ihave Hst := (barState_land E Rd hd) $$ [Hst Htok Hpay]
  · isplitl [Hst]; · iexact Hst
    isplitl [Htok] <;> iassumption
  ihave Hc := Hclose $$ [Hv Hst]
  · ileft
    iexists (v + Rd.amount g 0 d)
    isplitl [Hv]; · iexact Hv
    iexact Hst
  imod Hc
  imodintro
  iempintro

/-- The owner, having taken every duty and consumed all units, takes the counter, at zero, out for good. -/
theorem bar_close :
    iprop(barInv E Rd κ g ∗ atPos E g 0 (Rd.duties g 0) (Rd.expect g 0)) ⊢ iprop(|={Set.univ}=> semVal g 0) := by
  iintro ⟨Hg, Hat⟩
  imod (inv_acc (Set.mem_univ κ)) $$ Hg with ⟨Hb, Hclose⟩
  unfold barBody
  icases Hb with (⟨%v, Hv, Hst⟩ | Hcl)
  rotate_left
  · iexfalso; iapply (barClosed_atPos_false E Rd); isplitl [Hcl] <;> iassumption
  unfold barState
  icases Hst with ⟨%T, %m, %A, Ha, %hf, HT, -⟩
  icombine Ha Hat gives %hag
  obtain ⟨-, rfl, rfl⟩ := hag
  have h0 : v = 0 := by
    obtain ⟨-, hA, hv⟩ := hf
    have : A = ∅ := by
      rw [Finset.sdiff_self] at hA
      exact Finset.subset_empty.mp hA
    subst this
    simp only [Schedule.amountOf, Schedule.expect, Finset.sum_empty] at hv
    omega
  subst h0
  ihave Hc := Hclose $$ [Hat HT]
  · iright
    unfold barClosed
    isplitl [Hat] <;> iassumption
  imod Hc
  imodintro
  iexact Hv

end Cell

/-! ### The two program rules -/

section RulesBar

variable [Preorder Lvl] {defs : Defs nD τ sig Val Λ} (𝒱 : Variants)
variable (E : Emb (URounds (GSem nD τ sig) D) (MT nD τ sig Ix Val Name U Lvl))
variable (Rd : Schedule (GSem nD τ sig) D (MT nD τ sig Ix Val Name U Lvl))
variable (c : Thread nD τ) (bd : Option 𝒱.V) {Γ : PendingWaitsCtx sig Ix}
variable {α : Type} {Q : α → sProp (MT nD τ sig Ix Val Name U Lvl)}

/-- A signal paying a duty of the target cell, handing in the duty's token and payload. -/
theorem wp_bar_signal {dst : Thread nD τ} {sem : Sem sig} {d : D} {k' : ℕ}
    {k : PUnit → Prog (TpuEff nD τ sig Val Λ c.2) α}
    {κ : Name} (hd : d ∈ Rd.duties (dst, .reg sem) 0)
    (hk : Rd.amount (dst, .reg sem) 0 d = k') (ι : Ix) {O₀ : CellTallies nD τ sig Ix} (O : CellTallies nD τ sig Ix)
    (hO : O₀ = O + tallyAt (dst, .reg sem) ι k') {W : Waits sig Ix} {Es : Set Name} (hr : τ.routes c dst = true := by routes) :
    iprop(barInv E Rd κ (dst, .reg sem) ∗ owes c O₀ W ∗ dutyTok E (dst, .reg sem) 0 d ∗ Rd.payload (dst, .reg sem) 0 d)
      ⊢ iprop((owes c O W -∗ wp frame (wpE' defs 𝒱 c bd Γ) Es (k ⟨⟩) Q)
          -∗ wp frame (wpE' defs 𝒱 c bd Γ) Es (.op (.semSignal dst sem k') k) Q) := by
  subst hk
  iintro ⟨Hg, HL, Htok, Hpay⟩ Hk
  iapply (wp_semSignal 𝒱 c bd Es ι O hO hr) $$ HL [Hg Htok Hpay]
  · rw [landingUpdate_def]
    iintro -
    iapply (bar_land_atomically E Rd hd)
    isplitl [Hg]; · iexact Hg
    isplitl [Htok] <;> iassumption
  iexact Hk

/-- A wait of `k'` units: the owner takes a set of landed duties which, with those
    it took before, covers all the units it has consumed. -/
theorem wp_bar_wait {w : TpuEff nD τ sig Val Λ c.2 PUnit} {sm : SemLoc sig} {k' : ℕ}
    {κ : Name} (hw : ∀ K : PUnit → sProp 𝕄, wpE' defs 𝒱 c bd Γ Set.univ w K = waitSpec c Set.univ sm k' K)
    {k : PUnit → Prog (TpuEff nD τ sig Val Λ c.2) α}
    (ι : Ix) {O : CellTallies nD τ sig Ix} {W : Waits sig Ix} {m : ℕ} {T : Finset D} :
    iprop(barInv E Rd κ (c, sm) ∗ cred (tallyAt (c, sm) ι k') ∗ owes c O W ∗ MayWait c sm ι O ∗ atPos E (c, sm) 0 T m)
      ⊢ iprop((∀ A : Finset D,
              (⌜A ⊆ Rd.duties (c, sm) 0 \ T ∧ m + k' ≤ Rd.amountOf (c, sm) 0 T + Rd.amountOf (c, sm) 0 A⌝
              ∗ owes c O (insert (sm, ι) W) ∗ atPos E (c, sm) 0 (T ∪ A) (m + k')
              ∗ bigSep A (fun d => Rd.payload (c, sm) 0 d))
            -∗ wp frame (wpE' defs 𝒱 c bd Γ) Set.univ (k ⟨⟩) Q)
          -∗ wp frame (wpE' defs 𝒱 c bd Γ) Set.univ (.op w k) Q) := by
  iintro ⟨Hg, Hc, HL, Hlev, Hat⟩ Hk
  have htot : Util.total (Finsupp.single ι k') = k' := Util.total_single ι k'
  have hN : (Finsupp.single ι k' : Ix →₀ ℕ).support.image (sm, ·) ⊆ ({(sm, ι)} : Waits sig Ix) :=
    image_single_subset sm ι k'
  iapply (Idealize.ShloMosaic.wp_wait 𝒱 c bd Set.univ hw {(sm, ι)} htot hN) $$ [Hc HL Hlev]
  · isplitl [Hc]; · iexact Hc
    isplitl [HL] <;> iassumption
  imod (inv_acc (Set.mem_univ κ)) $$ Hg with ⟨Hb, Hclose⟩
  unfold barBody
  icases Hb with (⟨%v, Hv, Hst⟩ | Hcl)
  rotate_left
  · iexfalso; iapply (barClosed_atPos_false E Rd); isplitl [Hcl] <;> iassumption
  imodintro
  iapply lowerSpec_intro $$ Hv
  iintro %hle Hv
  imod (barState_wait E Rd hle) $$ [Hst Hat] with ⟨%A, %hA, Hst, Hat, Hpay⟩
  · isplitl [Hst] <;> iassumption
  ihave Hc := Hclose $$ [Hv Hst]
  · ileft
    iexists (v - k')
    isplitl [Hv]; · iexact Hv
    iexact Hst
  imod Hc
  imodintro
  iintro HL
  iapply Hk $$ %A
  isplitr; · ipureintro; exact hA
  isplitl [HL]
  · rw [Finset.insert_eq, Finset.union_comm]; iexact HL
  isplitl [Hat] <;> iassumption

end RulesBar

end Peer
-- ==== Proof.Sched.lean ====
/- The protocol: the semaphores of a device, what is paid onto each of them and by whom, the contents
   every payment hands over, and in which order a device pays and waits. -/
module

public import proofs.«01_k».proof.Proof.Slots
public import proofs.«01_k».proof.Proof.BarCell
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Peer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the rounds. -/
abbrev UB : Type := URounds (GSem nD τ sig) D
/-- The whole ghost state. -/
abbrev UU : Type := UR sig nD τ × UB

local notation "𝕄" => MT nD τ sig Unit (Elt F) ℕ UU ℕ

/-- Where the pipeline's ghost state lies. -/
abbrev EP : Emb (UR sig nD τ) (MT nD τ sig Unit (Elt F) ℕ UU ℕ) := embL
/-- Where the rounds' ghost state lies. -/
abbrev ER : Emb UB (MT nD τ sig Unit (Elt F) ℕ UU ℕ) := embR

/-! ### The semaphores -/

/-- What a transfer's semaphore is for: nothing, an exchange's send, an exchange's landing, the copy of
    the block in, the copy of the result out. -/
inductive Use where
  | idle
  | send (e : D)
  | recv (e : D)
  | block
  | result
deriving DecidableEq

/-- The use of every transfer semaphore. -/
def use : Fin 26 → Use :=
  ![.idle, .send (.inl 0), .send (.inl 1), .send (.inl 2),
    .idle, .recv (.inl 0), .recv (.inl 1), .recv (.inl 2),
    .idle, .send (.inr 0), .send (.inr 1), .send (.inr 2), .send (.inr 3), .send (.inr 4), .send (.inr 5), .send (.inr 6),
    .idle, .recv (.inr 0), .recv (.inr 1), .recv (.inr 2), .recv (.inr 3), .recv (.inr 4), .recv (.inr 5), .recv (.inr 6),
    .block, .result]

/-- The semaphore of an exchange's send. -/
def sendIx : D → Fin 26
  | .inl d => ⟨d.val + 1, by have := d.isLt; omega⟩
  | .inr k => ⟨k.val + 9, by have := k.isLt; omega⟩
/-- The semaphore of an exchange's landing. -/
def recvIx : D → Fin 26
  | .inl d => ⟨d.val + 5, by have := d.isLt; omega⟩
  | .inr k => ⟨k.val + 17, by have := k.isLt; omega⟩

/-- The use of a sending's semaphore. -/
theorem use_send (e : D) : use (sendIx e) = .send e := by revert e; decide
/-- The use of a landing's semaphore. -/
theorem use_recv (e : D) : use (recvIx e) = .recv e := by revert e; decide
/-- The use of the block's semaphore. -/
theorem use_block : use 24 = .block := by decide
/-- The use of the result's semaphore. -/
theorem use_result : use 25 = .result := by decide

/-- The barrier semaphore. -/
abbrev barS : Sem sig := (SemArray.scalar (sig.barrier 0 rfl) : Sems sig S_).sem

/-- A device's barrier cell. -/
abbrev barCell (c : Dev nD) : GSem nD τ sig := ((c : Thread nD τ), .reg barS)
/-- A device's DMA cell of number `i`. -/
abbrev dmaCell (c : Dev nD) (i : Fin 26) : GSem nD τ sig := ((c : Thread nD τ), .dma i)

/-! ### The pieces of memory -/

/-- Slot `d` of the first gathering of device `c`, at share `q` and contents `f`. -/
def zPts (c : Dev nD) (d : Fin 4) (q : PosShare TreeShare) (f : Vec F S2x4x256 .f32) : sProp 𝕄 :=
  ((c : Thread nD τ).loc cc0_scratch0) ↦[zset d]{q} f
/-- The whole first gathering of device `c`. -/
def zAll (c : Dev nD) (q : PosShare TreeShare) (f : Vec F S2x4x256 .f32) : sProp 𝕄 :=
  ((c : Thread nD τ).loc cc0_scratch0) ↦{q} f
/-- Slot `k` of the second gathering of device `c`. -/
def pPts (c : Dev nD) (k : Fin 8) (q : PosShare TreeShare) (f : Vec F S2x8x4x256 .f32) : sProp 𝕄 :=
  ((c : Thread nD τ).loc cc0_scratch1) ↦[pset k]{q} f
/-- The whole second gathering of device `c`. -/
def pAll (c : Dev nD) (q : PosShare TreeShare) (f : Vec F S2x8x4x256 .f32) : sProp 𝕄 :=
  ((c : Thread nD τ).loc cc0_scratch1) ↦{q} f
/-- The block of device `c`, where it arrives. -/
def inPts (c : Dev nD) (q : PosShare TreeShare) (f : Vec F S256x256 .f32) : sProp 𝕄 :=
  ((c : Thread nD τ).loc main_arg0) ↦{q} f
/-- The block of device `c`, in local memory. -/
def xPts (c : Dev nD) (f : Vec F S256x256 .f32) : sProp 𝕄 :=
  ((c : Thread nD τ).loc cc0_scratch2) ↦{fullShare} f
/-- The result of device `c`, in local memory. -/
def rPts (c : Dev nD) (f : Vec F S2x256 .f32) : sProp 𝕄 :=
  ((c : Thread nD τ).loc cc0_scratch3) ↦{fullShare} f
/-- The result of device `c`, where it is left. -/
def outPts (c : Dev nD) (f : Vec F S2x256 .f32) : sProp 𝕄 :=
  ((c : Thread nD τ).loc main_v1) ↦{fullShare} f

/-- What remains of a slot of the first gathering while three sends may read it. -/
abbrev q3 : PosShare TreeShare := Transfers.shareDrop fullShare 3
/-- What remains of that while seven more may. -/
abbrev q10 : PosShare TreeShare := Transfers.shareDrop q3 7

/-- The slot an exchange lands in, free. -/
def free (c : Dev nD) : D → sProp 𝕄
  | .inl d => iprop(∃ f, zPts c d.succ fullShare f)
  | .inr k => iprop(∃ f, pPts c k.succ fullShare f)

/-- What an exchange's send reads. -/
def lent (x : Blocks F) (c : Dev nD) : D → sProp 𝕄
  | .inl d => zPts c 0 (Transfers.shareTok fullShare 3 d) (GZ x c)
  | .inr k => zAll c (Transfers.shareTok q3 7 k) (GZ x c)

/-- What an exchange's landing leaves. -/
def landed (x : Blocks F) (c : Dev nD) : D → sProp 𝕄
  | .inl d => zPts c d.succ fullShare (GZ x c)
  | .inr k => pPts c k.succ fullShare (GP x c)

/-- What a transfer of each use hands over when it completes. -/
def handed (x : Blocks F) (c : Dev nD) : Use → sProp 𝕄
  | .idle => iprop(emp)
  | .send e => lent x c e
  | .recv e => landed x c e
  | .block => iprop(xPts c (x c) ∗ inPts c fullShare (x c))
  | .result => iprop(outPts c (out x c) ∗ rPts c (out x c))

/-- The amount an exchange's transfer counts for. -/
def size : D → ℕ
  | .inl _ => (zslot 0).view.dmaCredit
  | .inr _ => (pslot 0).view.dmaCredit

/-- The block in local memory. -/
abbrev xvM : Memref sig .tc .vmem S256x256 .f32 := Memref.whole cc0_scratch2
/-- The device's block of the argument. -/
abbrev inM : Memref sig .tc .hbm S256x256 .f32 := Memref.whole main_arg0
/-- The result. -/
abbrev outM : Memref sig .tc .hbm S2x256 .f32 := Memref.whole main_v1

/-- The amount a transfer of each use counts for. -/
def worth : Use → ℕ
  | .idle => 1
  | .send e => size e
  | .recv e => size e
  | .block => xvM.view.dmaCredit
  | .result => outM.view.dmaCredit

/-- A transfer moves something. -/
theorem size_pos (e : D) : 0 < size e := by
  cases e
  · exact View.dmaCredit_pos _ (by decide)
  · exact View.dmaCredit_pos _ (by decide)

/-- A DMA semaphore is credited with something. -/
theorem worth_pos (u : Use) : 0 < worth u := by
  cases u
  · exact Nat.one_pos
  · exact size_pos _
  · exact size_pos _
  · exact View.dmaCredit_pos _ (by decide)
  · exact View.dmaCredit_pos _ (by decide)

/-- A free slot can be stored in an invariant. -/
instance free_storable (c : Dev nD) (e : D) : BI.Storable (upEmb : UEmb _ 𝕄) (free (F := F) c e) := by
  cases e <;> (unfold free zPts pPts; infer_instance)
/-- A share lent can be stored in an invariant. -/
instance lent_storable (x : Blocks F) (c : Dev nD) (e : D) : BI.Storable (upEmb : UEmb _ 𝕄) (lent x c e) := by
  cases e <;> (unfold lent zPts zAll; infer_instance)
/-- A landing can be stored in an invariant. -/
instance landed_storable (x : Blocks F) (c : Dev nD) (e : D) : BI.Storable (upEmb : UEmb _ 𝕄) (landed x c e) := by
  cases e <;> (unfold landed zPts pPts; infer_instance)
/-- What a DMA cell hands over can be stored in an invariant. -/
instance handed_storable (x : Blocks F) (c : Dev nD) (u : Use) : BI.Storable (upEmb : UEmb _ 𝕄) (handed x c u) := by
  cases u <;> (unfold handed; first | infer_instance | (unfold xPts inPts; infer_instance) | (unfold outPts rPts; infer_instance))

/-! ### The schedule -/

/-- What is due on a semaphore: on the readiness semaphore one signal per exchange, on a transfer's
    semaphore the one transfer. -/
def due : SemLoc sig → Finset D
  | .reg _ => Finset.univ
  | .dma i => if use i = .idle then ∅ else {.inl 0}

/-- The amount of each due. -/
def dueAmount : SemLoc sig → D → ℕ
  | .reg _, e => units e
  | .dma i, _ => worth (use i)

/-- What each due hands over: a signal the slot its sender will receive in, a transfer its contents. -/
def duePay (x : Blocks F) (c : Dev nD) : SemLoc sig → D → sProp 𝕄
  | .reg _, e => free (peer (inv e) c) (inv e)
  | .dma i, _ => handed x c (use i)

/-- The schedule: everything happens in one round. -/
def Rd (x : Blocks F) : Rounds.Schedule (GSem nD τ sig) D 𝕄 where
  duties g r := if r = 0 then due g.2 else ∅
  unitless _ := False
  amount g _ e := dueAmount g.2 e
  payload g _ e := duePay x g.1.1 g.2 e
  amount_pos g r e h := by
    rcases hg : g.2 with s | i
    · exact units_pos e
    · exact worth_pos _

/-- Every payload of the schedule can be stored in an invariant. -/
instance Rd_storable (x : Blocks F) (g : GSem nD τ sig) (r : ℕ) (e : D) :
    BI.Storable (upEmb : UEmb _ 𝕄) ((Rd x).payload g r e) := by
  show BI.Storable upEmb (duePay x g.1.1 g.2 e)
  rcases g.2 with s | i <;> (unfold duePay; infer_instance)

section Tables
variable (x : Blocks F) (c : Dev nD)

/-- All ten peers owe the barrier a signal. -/
theorem duties_bar : (Rd x).duties (barCell c) 0 = Finset.univ := by dsimp only [Rd]; rw [if_pos rfl]; rfl
/-- A DMA cell in use has one duty. -/
theorem duties_dma {i : Fin 26} (h : use i ≠ .idle) : (Rd x).duties (dmaCell c i) 0 = {.inl 0} := by
  dsimp only [Rd]; rw [if_pos rfl]; unfold due; exact if_neg h
/-- An idle cell has none. -/
theorem duties_idle {i : Fin 26} (h : use i = .idle) (r : ℕ) : (Rd x).duties (dmaCell c i) r = ∅ := by
  dsimp only [Rd]; split
  · unfold due; exact if_pos h
  · rfl
/-- There is one round only. -/
theorem duties_later (g : GSem nD τ sig) : ∀ r, 1 ≤ r → (Rd x).duties g r = ∅ :=
  fun r hr => by dsimp only [Rd]; exact if_neg fun h => by omega

/-- A signal's amount. -/
theorem amount_bar (e : D) : (Rd x).amount (barCell c) 0 e = units e := rfl
/-- A transfer's credit. -/
theorem amount_dma (i : Fin 26) (e : D) : (Rd x).amount (dmaCell c i) 0 e = worth (use i) := rfl
/-- A DMA cell expects its one credit. -/
theorem expect_dma {i : Fin 26} (h : use i ≠ .idle) : (Rd x).expect (dmaCell c i) 0 = worth (use i) := by
  unfold Schedule.expect Schedule.amountOf; rw [duties_dma x c h, Finset.sum_singleton, amount_dma]
/-- A signal hands over the slot that it says is free. -/
theorem payload_bar (e : D) : (Rd x).payload (barCell c) 0 e = free (peer (inv e) c) (inv e) := rfl
/-- What a DMA cell hands over. -/
theorem payload_dma (i : Fin 26) (e : D) : (Rd x).payload (dmaCell c i) 0 e = handed x c (use i) := rfl

/-- A DMA cell's payloads are its one payload. -/
theorem rest_dma {i : Fin 26} (h : use i ≠ .idle) :
    bigSep ((Rd x).duties (dmaCell c i) 0 \ ∅) (fun u => (Rd x).payload (dmaCell c i) 0 u) = handed x c (use i) := by
  rw [Finset.sdiff_empty, duties_dma x c h, bigSep_singleton, payload_dma]

end Tables

/-! ### What a device owes, in the order in which it pays -/

/-- A payment: a signal (`true`) or a transfer (`false`) of an exchange. -/
abbrev Payment : Type := Bool × D

/-- The semaphore a payment of device `c` goes to. -/
def payCell (c : Dev nD) : Payment → GSem nD τ sig
  | (true, e) => barCell (peer e c)
  | (false, e) => dmaCell (peer e c) (recvIx e)
/-- What it counts for. -/
def payUnits : Payment → ℕ
  | (true, e) => units e
  | (false, e) => size e

/-- What the payments of a list owe. -/
def owed (c : Dev nD) : List Payment → CellTallies nD τ sig Unit
  | [] => 0
  | o :: l => owed c l + tallyAt (payCell c o) () (payUnits o)

/-- The exchanges in order. -/
abbrev order : List D := [.inl 0, .inl 1, .inl 2, .inr 0, .inr 1, .inr 2, .inr 3, .inr 4, .inr 5, .inr 6]

/-- The transfers in order. -/
abbrev transfers : List Payment :=
  [(false, .inl 0), (false, .inl 1), (false, .inl 2), (false, .inr 0), (false, .inr 1), (false, .inr 2), (false, .inr 3),
    (false, .inr 4), (false, .inr 5), (false, .inr 6)]
/-- All payments in order. -/
abbrev payments : List Payment :=
  (true, .inl 0) :: (true, .inl 1) :: (true, .inl 2) :: (true, .inr 0) :: (true, .inr 1) :: (true, .inr 2) :: (true, .inr 3)
    :: (true, .inr 4) :: (true, .inr 5) :: (true, .inr 6) :: transfers

/-- What a device owes at launch. -/
def O₀ (c : Dev nD) : CellTallies nD τ sig Unit := owed c payments

/-- The levels' index of a cell. -/
def L (g : GSem nD τ sig) : Finset Unit := if g.1.2 = .tc then {()} else ∅
/-- Cells of other cores have no level. -/
theorem L_of_ne (g : GSem nD τ sig) (h : g.1.2 ≠ .tc) : L g = ∅ := if_neg h
/-- Cells of the core have one. -/
theorem L_tc (c : Dev nD) (sm : SemLoc sig) : L ((c : Thread nD τ), sm) = {()} := if_pos rfl

/-- The level of a transfer semaphore's use. -/
def useLevel : Use → ℕ
  | .recv (.inl _) => 2
  | .recv (.inr _) => 3
  | _ => 0
/-- The level of a semaphore: a wait needs everything still owed to be higher. -/
def level : SemLoc sig → ℕ
  | .reg _ => 1
  | .dma i => useLevel (use i)
/-- The level of a cell. -/
def lv (g : GSem nD τ sig) (_ : Unit) : ℕ := level g.2

/-- The level of a payment's semaphore. -/
def payLevel : Payment → ℕ
  | (true, _) => 1
  | (false, e) => useLevel (.recv e)

/-- The level of a payment's cell. -/
theorem lv_pay (c : Dev nD) (o : Payment) (u : Unit) : lv (payCell c o) u = payLevel o := by
  obtain ⟨b, e⟩ := o
  cases b
  · show useLevel (use (recvIx e)) = _; rw [use_recv]; rfl
  · rfl

/-- A payment's cell has a level. -/
theorem L_pay (c : Dev nD) (o : Payment) (u : Unit) : u ∈ L (payCell c o) := by
  obtain ⟨b, e⟩ := o
  cases b <;> exact Finset.mem_singleton_self _

/-- A cell is owed something only by a payment of the list. -/
theorem owed_pos {c : Dev nD} {g : GSem nD τ sig} {u : Unit} :
    ∀ {l : List Payment}, 0 < owed c l g u → ∃ o ∈ l, g = payCell c o
  | [], h => absurd h (Nat.lt_irrefl 0)
  | o :: l, h => by
    unfold owed at h
    rw [Pi.add_apply, Finsupp.add_apply, tallyAt_apply] at h
    by_cases hg : g = payCell c o ∧ u = ()
    · exact ⟨o, List.mem_cons_self, hg.1⟩
    · rw [if_neg hg, Nat.add_zero] at h
      obtain ⟨o', ho, he⟩ := owed_pos h
      exact ⟨o', List.mem_cons_of_mem _ ho, he⟩

/-- A wait is allowed when everything still owed is at a higher level. -/
theorem mayWait (c : Dev nD) (sm : SemLoc sig) (l : List Payment) (h : ∀ o ∈ l, level sm < payLevel o) :
    (levAts L lv : sProp 𝕄) ⊢ MayWait (c : Thread nD τ) sm () (owed c l) :=
  MayOwe.of_cut (L := L) (lev := lv) (level sm)
    (fun p hp => by rw [Finset.mem_singleton.mp hp, L_tc]; exact Finset.mem_singleton_self _)
    (fun g u hg => by obtain ⟨o, ho, rfl⟩ := owed_pos hg; exact L_pay c o u)
    (fun p hp => by rw [Finset.mem_singleton.mp hp]; exact Nat.le_refl _)
    (fun g u hg => by obtain ⟨o, ho, rfl⟩ := owed_pos hg; rw [lv_pay]; exact h o ho)

end Peer
-- ==== Proof.Steps.lean ====
/- One theorem per kind of statement of the kernel: what a signal, a wait and a transfer of an exchange
   take and what they give back. -/
module

public import proofs.«01_k».proof.Proof.Sched

@[expose] public section

noncomputable section

namespace Peer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No loop has a variant to give. -/
abbrev 𝒱₀ : Variants := Variants.none

/-! ### What everybody knows -/

/-- The invariants of all semaphores, that their one round is open, and the levels. -/
def records (x : Blocks F) (Kb : Dev nD → ℕ) (K : Dev nD × Fin 26 → ℕ) : sProp 𝕄 :=
  iprop((bigSep Finset.univ fun c : Dev nD => barInv ER (Rd x) (Kb c) (barCell c))
    ∗ (bigSep Finset.univ fun ci : Dev nD × Fin 26 => cellInv ER (Rd x) (K ci) (dmaCell ci.1 ci.2))
    ∗ (bigSep Finset.univ fun ci : Dev nD × Fin 26 => reached ER (dmaCell ci.1 ci.2) 0)
    ∗ (levAts L lv : sProp 𝕄))

/-- The records can be copied. -/
instance records_persistent (x : Blocks F) (Kb : Dev nD → ℕ) (K : Dev nD × Fin 26 → ℕ) :
    BI.Persistent (records x Kb K) := by unfold records; infer_instance

omit [FloatOps F] in
/-- From what is known of all, what is known of one. -/
theorem knows {I : Type} [Fintype I] [DecidableEq I] (Φ : I → sProp 𝕄) (i : I) : bigSep Finset.univ Φ ⊢ Φ i :=
  bigSep_elim (Finset.mem_univ i)

section Records
variable (x : Blocks F) (Kb : Dev nD → ℕ) (K : Dev nD × Fin 26 → ℕ)

/-- The records hold a device's barrier invariant. -/
theorem records_bar (c : Dev nD) : records x Kb K ⊢ barInv ER (Rd x) (Kb c) (barCell c) := by
  unfold records; iintro ⟨H, -⟩
  iapply (knows (fun c : Dev nD => barInv ER (Rd x) (Kb c) (barCell c)) c) $$ H
/-- The records hold a DMA cell's invariant. -/
theorem records_dma (c : Dev nD) (i : Fin 26) : records x Kb K ⊢ cellInv ER (Rd x) (K (c, i)) (dmaCell c i) := by
  unfold records; iintro ⟨-, H, -⟩
  iapply (knows (fun ci : Dev nD × Fin 26 => cellInv ER (Rd x) (K ci) (dmaCell ci.1 ci.2)) (c, i)) $$ H
/-- Every DMA cell's round 0 is reached. -/
theorem records_reached (c : Dev nD) (i : Fin 26) : records x Kb K ⊢ reached ER (dmaCell c i) 0 := by
  unfold records; iintro ⟨-, -, H, -⟩
  iapply (knows (fun ci : Dev nD × Fin 26 => (reached ER (dmaCell ci.1 ci.2) 0 : sProp 𝕄)) (c, i)) $$ H
/-- The records hold the levels. -/
theorem records_levels : records x Kb K ⊢ iprop((levAts L lv : sProp 𝕄) ∗ emp) := by
  unfold records; iintro ⟨-, -, -, H⟩; isplitl; · iexact H
  iempintro
end Records

/-- The level of a DMA semaphore's use. -/
theorem level_dma (i : Fin 26) : useLevel (use i) = level (.dma i) := rfl

omit [FloatOps F] in
/-- The whole first gathering is every element of it. -/
theorem gz_set : (gzM).view.set = (Finset.univ : Finset S2x4x256.Idx) := View.set_whole _

/-- What a device still owes. -/
def owing (c : Dev nD) (l : List Payment) : sProp 𝕄 := iprop(∃ W, owes (c : Thread nD τ) (owed c l) W)

/-! ### Counting the signals of readiness -/

/-- The exchanges across the groups. -/
abbrev zl : List D := [.inl 0, .inl 1, .inl 2]
/-- The payers of the first hop. -/
abbrev zs : Finset D := zl.toFinset
/-- The exchanges inside a group. -/
abbrev ps : List D := [.inr 0, .inr 1, .inr 2, .inr 3, .inr 4, .inr 5, .inr 6]

/-- A set of signals that misses one counts for at most the others. -/
theorem counted {A : Finset D} {e : D} (h : 31 < units e + ∑ d ∈ A, units d) : e ∈ A := by
  by_contra hn
  have h1 : ∑ d ∈ A, units d ≤ ∑ d ∈ Finset.univ.erase e, units d :=
    Finset.sum_le_sum_of_subset fun d hd => Finset.mem_erase.mpr ⟨fun he => hn (he ▸ hd), Finset.mem_univ _⟩
  have h2 : units e + ∑ d ∈ Finset.univ.erase e, units d = 31 := by
    rw [Finset.add_sum_erase _ _ (Finset.mem_univ e)]; decide
  omega

/-- Signals that count for 24 include those of all partners in other groups. -/
theorem all_across {A : Finset D} (h : 24 ≤ ∑ d ∈ A, units d) : zs ⊆ A := by
  have hu : ∀ e ∈ zs, units e = 8 := by decide
  exact fun e he => counted (by have := hu e he; omega)

/-- Signals that count for 31 are all. -/
theorem everybody {x : Blocks F} {c : Dev nD} {T A : Finset D} (hd : Disjoint T A)
    (h : 24 + 7 ≤ (Rd x).amountOf (barCell c) 0 T + (Rd x).amountOf (barCell c) 0 A) : T ∪ A = Finset.univ := by
  have h' : 31 ≤ ∑ d ∈ T ∪ A, units d := by rw [Finset.sum_union hd]; exact h
  exact Finset.eq_univ_of_forall fun e => counted (by have := units_pos e; omega)

/-- The barrier expects 24 units and 7. -/
theorem expect_bar (x : Blocks F) (c : Dev nD) : (Rd x).expect (barCell c) 0 = 24 + 7 := by
  unfold Schedule.expect Schedule.amountOf; rw [duties_bar]
  show ∑ e, units e = 31
  decide

/-- The free slots that a set of signals holding the partners' brings: theirs, and the others. -/
theorem bar_split (x : Blocks F) (c : Dev nD) {A : Finset D} (h : zs ⊆ A) :
    bigSep A (fun e => (Rd x).payload (barCell c) 0 e)
      = iprop((free (F := F) (peer (inv (.inl 0)) c) (inv (.inl 0)) ∗ free (peer (inv (.inl 1)) c) (inv (.inl 1)) ∗ free (peer (inv (.inl 2)) c) (inv (.inl 2)))
        ∗ bigSep (A \ zs) (fun e => free (peer (inv e) c) (inv e))) := by
  refine (bigSep_sdiff_split h).trans ?_
  rw [bigSep_eq_bigSepL zl (by decide)]
  rfl

/-- The free slots of the two waits together, the partners' aside: those of the group. -/
theorem bar_rest (x : Blocks F) (c : Dev nD) {T A : Finset D} (h : zs ⊆ T) (hd : Disjoint T A) (hall : T ∪ A = Finset.univ) :
    iprop(bigSep (T \ zs) (fun e => free (F := F) (peer (inv e) c) (inv e)) ∗ bigSep A (fun e => (Rd x).payload (barCell c) 0 e))
      = iprop(free (peer (inv (.inr 0)) c) (inv (.inr 0)) ∗ free (peer (inv (.inr 1)) c) (inv (.inr 1)) ∗ free (peer (inv (.inr 2)) c) (inv (.inr 2))
        ∗ free (peer (inv (.inr 3)) c) (inv (.inr 3)) ∗ free (peer (inv (.inr 4)) c) (inv (.inr 4)) ∗ free (peer (inv (.inr 5)) c) (inv (.inr 5))
        ∗ free (peer (inv (.inr 6)) c) (inv (.inr 6))) := by
  have hp : (T \ zs) ∪ A = ps.toFinset := by
    have h1 : zs ∩ A = ∅ := Finset.disjoint_iff_inter_eq_empty.mp (hd.mono_left h)
    have h2 : A \ zs = A := Finset.sdiff_eq_self_of_disjoint ((hd.mono_left h).symm)
    rw [← h2, ← Finset.union_sdiff_distrib, hall]; decide
  refine (bigSep_union (Φ := fun e => free (F := F) (peer (inv e) c) (inv e)) (hd.mono_left Finset.sdiff_subset)).symm.trans ?_
  rw [hp, bigSep_eq_bigSepL ps (by decide)]
  rfl

/-- Between the two waits for readiness: what the first has taken. -/
def half (c : Dev nD) : sProp 𝕄 :=
  iprop(∃ T : Finset D, ⌜zs ⊆ T⌝ ∗ atPos ER (barCell c) 0 T 24 ∗ bigSep (T \ zs) (fun e => free (F := F) (peer (inv e) c) (inv e)))

section Rules
variable (x : Blocks F) (Kb : Dev nD → ℕ) (K : Dev nD × Fin 26 → ℕ) (c : Dev nD)

/-- A signal to the device an exchange goes to: it hands over the slot that device will send into. -/
theorem step_signal {α : Type} {Q : α → sProp 𝕄} {k : PUnit → Prog (TpuEff nD τ sig (Elt F) Λ₀ .tc) α}
    {n : Dev nD} (e : D) (hn : n = peer e c) {a : ℕ} (ha : units e = a) (l : List Payment) :
    iprop(records x Kb K ∗ owing c ((true, e) :: l) ∗ dutyTok ER (barCell (peer e c)) 0 e ∗ free c (inv e))
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS a) k) Q) := by
  subst hn
  have hd : e ∈ (Rd (F := F) x).duties (barCell (peer e c)) 0 := by rw [duties_bar]; exact Finset.mem_univ _
  have ho : owed c ((true, e) :: l) = owed c l + tallyAt (barCell (peer e c)) () a := by rw [← ha]; rfl
  unfold owing
  iintro ⟨#HR, ⟨%W, HO⟩, Ht, Hf⟩ Hk
  ihave #HI := (records_bar x Kb K (peer e c)) $$ HR
  iapply (wp_bar_signal 𝒱₀ ER (Rd x) (c : Thread nD τ) none (dst := (peer e c : Thread nD τ)) (κ := Kb (peer e c))
      (d := e) hd ((amount_bar x (peer e c) e).trans ha) () (owed c l) ho (W := W)) $$ [HO Ht Hf]
  · isplitr; · iexact HI
    isplitl [HO]; · iexact HO
    isplitl [Ht]; · iexact Ht
    rw [payload_bar, peer_inv_peer]; iexact Hf
  iintro HO
  iapply Hk
  iexists W; iexact HO

/-- A wait for a transfer: what it hands over, and the semaphore back at zero. -/
theorem step_wait {α : Type} {Q : α → sProp 𝕄} {k : PUnit → Prog (TpuEff nD τ sig (Elt F) Λ₀ .tc) α}
    {i : Fin 26} {u : Use} (hu : use i = u) {sem : DmaSem sig} (hs : sem = i) {sp sp' : Space} {s s' : Shape} {e e' : EltTy}
    {src : Memref sig .tc sp s e} {dst : Memref sig .tc sp' s' e'} {h1 : src.view.WordExact} {h2 : dst.view.WordExact}
    (hi : u ≠ .idle) (hd : dst.view.dmaCredit = worth u) (l : List Payment)
    (hl : ∀ o ∈ l, useLevel u < payLevel o) :
    iprop(records x Kb K ∗ owing c l ∗ cred (tallyAt (dmaCell c i) () (worth u)) ∗ atPos ER (dmaCell c i) 0 ∅ 0)
      ⊢ iprop(((owing c l ∗ handed x c u ∗ semVal (dmaCell c i) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst h1 h2) k) Q) := by
  subst hs hu
  have hl' : ∀ o ∈ l, level (.dma sem) < payLevel o := fun o ho => lt_of_eq_of_lt (level_dma sem).symm (hl o ho)
  unfold owing
  iintro ⟨#HR, ⟨%W, HO⟩, Hc, Hat⟩ Hk
  ihave #HI := (records_dma x Kb K c sem) $$ HR
  ihave HL := (records_levels x Kb K) $$ HR
  icases HL with ⟨#HL, -⟩
  rw [← hd]
  iapply (Rounds.wp_wait_rest_token 𝒱₀ ER (Rd x) (c : Thread nD τ) none (κ := K (c, sem))
      (wpE_waitDma2_eq 𝒱₀ (c : Thread nD τ) none Set.univ) (Set.mem_univ _) () (O := owed c l) (W := W) (R := 0) (m := 0) (T := ∅)
      (by rw [Nat.zero_add]; exact hd.trans (expect_dma x c hi).symm)) $$ [Hc HO Hat]
  · isplitr; · iexact HI
    isplitl [Hc]; · iexact Hc
    isplitl [HO]; · iexact HO
    isplitr; · iapply (mayWait c (.dma sem) l hl') $$ HL
    iexact Hat
  iintro ⟨HO, Hat, -, Hpay⟩
  ihave Hp := (Entails.of_eq (rest_dma x c hi)) $$ Hpay
  imod (Rounds.cell_close ER (Rd x) (Set.mem_univ (K (c, sem))) (fun h => h) (R := 0 + 1) (duties_later x (dmaCell c sem))) $$ [Hat] with Hz
  · isplitr; · iexact HI
    iexact Hat
  iapply Hk
  isplitl [HO]; · iexists _; iexact HO
  isplitl [Hp] <;> iassumption

/-- The transfer of an exchange across the groups. -/
theorem step_send_z {α : Type} {Q : α → sProp 𝕄} {k : PUnit → Prog (TpuEff nD τ sig (Elt F) Λ₀ .tc) α}
    {n : Dev nD} (d : Fin 3) (hn : n = peer (.inl d) c) {src dst : Memref sig .tc .vmem S2x256 .f32}
    (hsrc : src = zslot 0) (hdst : dst = zslot d.succ) {sS sR : DmaSem sig} (hS : sS = sendIx (.inl d)) (hR : sR = recvIx (.inl d))
    {hsc : dst.view.ref.isScScratch = false} {h1 : src.view.WordExact} {h2 : dst.view.WordExact}
    {h3 : DmaTarget.Typed .vmem (.dma sR) (.remote (Dev.tc n : Thread nD τ) dst (.dma sS) hsc)} (l : List Payment) :
    iprop(records x Kb K ∗ owing c ((false, .inl d) :: l) ∗ lent x c (.inl d) ∗ free (peer (.inl d) c) (.inl d)
        ∗ dutyTok ER (dmaCell c (sendIx (.inl d))) 0 (.inl 0) ∗ dutyTok ER (dmaCell (peer (.inl d) c) (recvIx (.inl d))) 0 (.inl 0))
      ⊢ iprop(((owing c l ∗ cred (tallyAt (dmaCell c (sendIx (.inl d))) () (worth (.send (.inl d)))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) h1 h2 h3) k) Q) := by
  subst hn hsrc hdst hS hR
  unfold owing free
  iintro ⟨#HR, ⟨%W, HO⟩, Hl, ⟨%fd, Hf⟩, HtS, HtR⟩ Hk
  ihave #HIS := (records_dma x Kb K c (sendIx (.inl d))) $$ HR
  ihave #HIR := (records_dma x Kb K (peer (.inl d) c) (recvIx (.inl d))) $$ HR
  ihave #HrS := (records_reached x Kb K c (sendIx (.inl d))) $$ HR
  ihave #HrR := (records_reached x Kb K (peer (.inl d) c) (recvIx (.inl d))) $$ HR
  unfold lent zPts
  rw [← zslot_set, ← zslot_set]
  iapply (Rounds.wp_send_pointsTo 𝒱₀ ER (Rd x) (c : Thread nD τ) none (c' := (peer (.inl d) c : Thread nD τ))
    (src := zslot 0) (dst := zslot d.succ)
    (κ₁ := K (c, sendIx (.inl d))) (κ₂ := K (peer (.inl d) c, recvIx (.inl d)))
    (r₁ := 0) (r₂ := 0) (d₁ := .inl 0) (d₂ := .inl 0) (fd := fd) (fs := GZ x c)
    (by rw [duties_dma x c (by rw [use_send]; exact Use.noConfusion)]; exact Finset.mem_singleton_self _)
    (by rw [duties_dma x (peer (.inl d) c) (by rw [use_recv]; exact Use.noConfusion)]; exact Finset.mem_singleton_self _)
    () () (size (.inl d)) rfl (by rw [amount_dma, use_send]; rfl) (by rw [amount_dma, use_recv]; rfl) (owed c l) rfl (W := W)
    (by rw [payload_dma, use_send]; unfold handed lent zPts; rw [zslot_set])
    (by rw [payload_dma, use_recv]; unfold handed landed zPts; rw [zslot_set]; exact Entails.of_eq (pointsTo_congr (zland x c d fd))))
    $$ [HO Hl Hf HtS HtR]
  · isplitr; · iexact HIS
    isplitr; · iexact HIR
    isplitl [Hl]; · iexact Hl
    isplitl [Hf]; · iexact Hf
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  iexact Hc

/-- The transfer of an exchange inside a group. -/
theorem step_send_p {α : Type} {Q : α → sProp 𝕄} {k : PUnit → Prog (TpuEff nD τ sig (Elt F) Λ₀ .tc) α}
    {n : Dev nD} (j : Fin 7) (hn : n = peer (.inr j) c) {src dst : Memref sig .tc .vmem S2x4x256 .f32}
    (hsrc : src = gzM) (hdst : dst = pslot j.succ) {sS sR : DmaSem sig} (hS : sS = sendIx (.inr j)) (hR : sR = recvIx (.inr j))
    {hsc : dst.view.ref.isScScratch = false} {h1 : src.view.WordExact} {h2 : dst.view.WordExact}
    {h3 : DmaTarget.Typed .vmem (.dma sR) (.remote (Dev.tc n : Thread nD τ) dst (.dma sS) hsc)} (l : List Payment) :
    iprop(records x Kb K ∗ owing c ((false, .inr j) :: l) ∗ lent x c (.inr j) ∗ free (peer (.inr j) c) (.inr j)
        ∗ dutyTok ER (dmaCell c (sendIx (.inr j))) 0 (.inl 0) ∗ dutyTok ER (dmaCell (peer (.inr j) c) (recvIx (.inr j))) 0 (.inl 0))
      ⊢ iprop(((owing c l ∗ cred (tallyAt (dmaCell c (sendIx (.inr j))) () (worth (.send (.inr j)))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) h1 h2 h3) k) Q) := by
  subst hn hsrc hdst hS hR
  unfold owing free
  iintro ⟨#HR, ⟨%W, HO⟩, Hl, ⟨%fd, Hf⟩, HtS, HtR⟩ Hk
  ihave #HIS := (records_dma x Kb K c (sendIx (.inr j))) $$ HR
  ihave #HIR := (records_dma x Kb K (peer (.inr j) c) (recvIx (.inr j))) $$ HR
  ihave #HrS := (records_reached x Kb K c (sendIx (.inr j))) $$ HR
  ihave #HrR := (records_reached x Kb K (peer (.inr j) c) (recvIx (.inr j))) $$ HR
  unfold lent zAll pPts
  rw [← pslot_set]
  iapply (Rounds.wp_send_pointsTo 𝒱₀ ER (Rd x) (c : Thread nD τ) none (c' := (peer (.inr j) c : Thread nD τ))
    (src := gzM) (dst := pslot j.succ)
    (κ₁ := K (c, sendIx (.inr j))) (κ₂ := K (peer (.inr j) c, recvIx (.inr j)))
    (r₁ := 0) (r₂ := 0) (d₁ := .inl 0) (d₂ := .inl 0) (fd := fd) (fs := GZ x c)
    (by rw [duties_dma x c (by rw [use_send]; exact Use.noConfusion)]; exact Finset.mem_singleton_self _)
    (by rw [duties_dma x (peer (.inr j) c) (by rw [use_recv]; exact Use.noConfusion)]; exact Finset.mem_singleton_self _)
    () () (size (.inr j)) rfl (by rw [amount_dma, use_send]; rfl) (by rw [amount_dma, use_recv]; rfl) (owed c l) rfl (W := W)
    (by rw [payload_dma, use_send]; unfold handed lent zAll; rw [gz_set])
    (by rw [payload_dma, use_recv]; unfold handed landed pPts; rw [pslot_set]; exact Entails.of_eq (pointsTo_congr (pland x c j fd))))
    $$ [HO Hl Hf HtS HtR]
  · isplitr; · iexact HIS
    isplitr; · iexact HIR
    isplitl [Hl]; · rw [gz_set]; iexact Hl
    isplitl [Hf]; · iexact Hf
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  iexact Hc

/-- The copy of the block into local memory. -/
theorem step_block {α : Type} {Q : α → sProp 𝕄} {k : PUnit → Prog (TpuEff nD τ sig (Elt F) Λ₀ .tc) α}
    {src : Memref sig .tc .hbm S256x256 .f32} {dst : Memref sig .tc .vmem S256x256 .f32} (hsrc : src = inM) (hdst : dst = xvM)
    {sR : DmaSem sig} (hR : sR = 24)
    {h1 : src.view.WordExact} {h2 : dst.view.WordExact}
    {h3 : DmaTarget.Typed (nD := nD) (τ := τ) (p := Proc.tc) .hbm (.dma sR) (.here dst)} :
    iprop(records x Kb K ∗ inPts c fullShare (x c) ∗ (∃ f, xPts c f) ∗ dutyTok ER (dmaCell c 24) 0 (.inl 0))
      ⊢ iprop((cred (tallyAt (dmaCell c 24) () (worth .block))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sR) h1 h2 h3) k) Q) := by
  subst hsrc hdst hR
  have e1 : (inM).view.set = (Finset.univ : Finset S256x256.Idx) := View.set_whole _
  have e2 : (xvM).view.set = (Finset.univ : Finset S256x256.Idx) := View.set_whole _
  unfold inPts xPts
  iintro ⟨#HR, Hs, ⟨%fd, Hf⟩, Ht⟩ Hk
  ihave #HI := (records_dma x Kb K c 24) $$ HR
  ihave #Hr := (records_reached x Kb K c 24) $$ HR
  iapply (Rounds.wp_copy_pointsTo 𝒱₀ ER (Rd x) (c : Thread nD τ) none (src := inM) (dst := xvM) (κ := K (c, 24))
    (r := 0) (d := .inl 0) (q := fullShare) (fd := fd) (fs := x c)
    (by rw [duties_dma x c (by rw [use_block]; exact Use.noConfusion)]; exact Finset.mem_singleton_self _)
    () (worth .block) rfl (by rw [amount_dma, use_block])
    (by rw [payload_dma, use_block, e1, e2]; unfold handed xPts inPts; rw [View.write_whole_univ, View.read_whole])) $$ [Hs Hf Ht]
  · isplitr; · iexact HI
    isplitl [Hs]; · rw [e1]; iexact Hs
    isplitl [Hf]; · rw [e2]; iexact Hf
    isplitl [Ht]; · iexact Ht
    iexact Hr
  iexact Hk

/-- The copy of the result out of local memory. -/
theorem step_result {α : Type} {Q : α → sProp 𝕄} {k : PUnit → Prog (TpuEff nD τ sig (Elt F) Λ₀ .tc) α}
    {src : Memref sig .tc .vmem S2x256 .f32} {dst : Memref sig .tc .hbm S2x256 .f32} (hsrc : src = reM) (hdst : dst = outM)
    {sR : DmaSem sig} (hR : sR = 25)
    {h1 : src.view.WordExact} {h2 : dst.view.WordExact}
    {h3 : DmaTarget.Typed (nD := nD) (τ := τ) (p := Proc.tc) .vmem (.dma sR) (.here dst)} :
    iprop(records x Kb K ∗ rPts c (out x c) ∗ (∃ f, outPts c f) ∗ dutyTok ER (dmaCell c 25) 0 (.inl 0))
      ⊢ iprop((cred (tallyAt (dmaCell c 25) () (worth .result))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sR) h1 h2 h3) k) Q) := by
  subst hsrc hdst hR
  have e1 : (reM).view.set = (Finset.univ : Finset S2x256.Idx) := View.set_whole _
  have e2 : (outM).view.set = (Finset.univ : Finset S2x256.Idx) := View.set_whole _
  unfold rPts outPts
  iintro ⟨#HR, Hs, ⟨%fd, Hf⟩, Ht⟩ Hk
  ihave #HI := (records_dma x Kb K c 25) $$ HR
  ihave #Hr := (records_reached x Kb K c 25) $$ HR
  iapply (Rounds.wp_copy_pointsTo 𝒱₀ ER (Rd x) (c : Thread nD τ) none (src := reM) (dst := outM) (κ := K (c, 25))
    (r := 0) (d := .inl 0) (q := fullShare) (fd := fd) (fs := out x c)
    (by rw [duties_dma x c (by rw [use_result]; exact Use.noConfusion)]; exact Finset.mem_singleton_self _)
    () (worth .result) rfl (by rw [amount_dma, use_result])
    (by rw [payload_dma, use_result, e1, e2]; unfold handed rPts outPts; rw [View.write_whole_univ, View.read_whole])) $$ [Hs Hf Ht]
  · isplitr; · iexact HI
    isplitl [Hs]; · rw [e1]; iexact Hs
    isplitl [Hf]; · rw [e2]; iexact Hf
    isplitl [Ht]; · iexact Ht
    iexact Hr
  iexact Hk

/-- The wait for the partners in the other groups: their slots are free for this device's transfers. -/
theorem step_ready {α : Type} {Q : α → sProp 𝕄} {k : PUnit → Prog (TpuEff nD τ sig (Elt F) Λ₀ .tc) α} (l : List Payment) (hl : ∀ o ∈ l, 1 < payLevel o) :
    iprop(records x Kb K ∗ owing c l ∗ cred (tallyAt (barCell c) () 24) ∗ atPos ER (barCell c) 0 ∅ 0)
      ⊢ iprop(((owing c l ∗ half c ∗ free (peer (.inl 0) c) (.inl 0) ∗ free (peer (.inl 1) c) (.inl 1) ∗ free (peer (.inl 2) c) (.inl 2))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 24) k) Q) := by
  unfold owing
  iintro ⟨#HR, ⟨%W, HO⟩, Hc, Hat⟩ Hk
  ihave #HI := (records_bar x Kb K c) $$ HR
  ihave HL := (records_levels x Kb K) $$ HR
  icases HL with ⟨#HL, -⟩
  iapply (wp_bar_wait 𝒱₀ ER (Rd x) (c : Thread nD τ) none (κ := Kb c) (wpE_semWait_eq 𝒱₀ (c : Thread nD τ) none Set.univ) ()
    (O := owed c l) (W := W) (m := 0) (T := ∅)) $$ [Hc HO Hat]
  · isplitr; · iexact HI
    isplitl [Hc]; · iexact Hc
    isplitl [HO]; · iexact HO
    isplitr; · iapply (mayWait c (.reg barS) l hl) $$ HL
    iexact Hat
  iintro %A ⟨%hA, HO, Hat, Hp⟩
  have hz : zs ⊆ A := all_across (hA.2.trans (le_of_eq ((congrArg (· + _) Finset.sum_empty).trans (Nat.zero_add _))))
  ihave Hp := (Entails.of_eq (bar_split x c hz)) $$ Hp
  icases Hp with ⟨⟨H0, H1, H2⟩, Hr⟩
  iapply Hk
  isplitl [HO]; · iexists _; iexact HO
  isplitl [Hat Hr]
  · unfold half
    iexists A
    isplitr; · ipureintro; exact hz
    isplitl [Hat]; · rw [Finset.empty_union]; iexact Hat
    iexact Hr
  isplitl [H2]; · iexact H2
  isplitl [H1]; · iexact H1
  iexact H0

/-- The wait for the rest of the group: their slots are free too, and the semaphore is back at zero. -/
theorem step_group {α : Type} {Q : α → sProp 𝕄} {k : PUnit → Prog (TpuEff nD τ sig (Elt F) Λ₀ .tc) α} (l : List Payment) (hl : ∀ o ∈ l, 1 < payLevel o) :
    iprop(records x Kb K ∗ owing c l ∗ cred (tallyAt (barCell c) () 7) ∗ half c)
      ⊢ iprop(((owing c l ∗ semVal (barCell c) 0 ∗ free (peer (.inr 0) c) (.inr 0) ∗ free (peer (.inr 1) c) (.inr 1) ∗ free (peer (.inr 2) c) (.inr 2)
              ∗ free (peer (.inr 3) c) (.inr 3) ∗ free (peer (.inr 4) c) (.inr 4) ∗ free (peer (.inr 5) c) (.inr 5) ∗ free (peer (.inr 6) c) (.inr 6))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold owing half
  iintro ⟨#HR, ⟨%W, HO⟩, Hc, ⟨%T, %hT, Hat, HT⟩⟩ Hk
  ihave #HI := (records_bar x Kb K c) $$ HR
  ihave HL := (records_levels x Kb K) $$ HR
  icases HL with ⟨#HL, -⟩
  iapply (wp_bar_wait 𝒱₀ ER (Rd x) (c : Thread nD τ) none (κ := Kb c) (wpE_semWait_eq 𝒱₀ (c : Thread nD τ) none Set.univ) ()
    (O := owed c l) (W := W) (m := 24) (T := T)) $$ [Hc HO Hat]
  · isplitr; · iexact HI
    isplitl [Hc]; · iexact Hc
    isplitl [HO]; · iexact HO
    isplitr; · iapply (mayWait c (.reg barS) l hl) $$ HL
    iexact Hat
  iintro %A ⟨%hA, HO, Hat, Hp⟩
  have hdis : Disjoint T A := (Finset.subset_sdiff.mp hA.1).2.symm
  have hall : T ∪ A = Finset.univ := everybody hdis hA.2
  ihave Hp := (Entails.of_eq (bar_rest x c hT hdis hall)) $$ [HT Hp]
  · isplitl [HT] <;> iassumption
  rw [hall]
  imod (bar_close ER (Rd x) (g := barCell c) (κ := Kb c)) $$ [Hat] with Hz
  · isplitr; · iexact HI
    rw [duties_bar, expect_bar]; iexact Hat
  icases Hp with ⟨H0, H1, H2, H3, H4, H5, H6⟩
  iapply Hk
  isplitl [HO]; · iexists _; iexact HO
  isplitl [Hz]; · iexact Hz
  isplitl [H6]; · iexact H6
  isplitl [H5]; · iexact H5
  isplitl [H4]; · iexact H4
  isplitl [H3]; · iexact H3
  isplitl [H2]; · iexact H2
  isplitl [H1]; · iexact H1
  iexact H0

end Rules

end Peer
-- ==== Proof.Shares.lean ====
/- Dividing the slots among the transfers that read them, and putting them together again. -/
module

public import proofs.«01_k».proof.Proof.Sched

@[expose] public section

noncomputable section

namespace Peer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Shares
variable (x : Blocks F) (c : Dev nD)

/-- A product over three indices, written out. -/
theorem three (Φ : Fin 3 → sProp 𝕄) : bigSep Finset.univ Φ = iprop(Φ 0 ∗ Φ 1 ∗ Φ 2) :=
  bigSep_univ_eq_bigSepL [0, 1, 2] (by decide) (by decide) Φ
/-- A product over four indices, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A product over seven indices, written out. -/
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- A product over eight indices, written out. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A slot of the first gathering, by its elements. -/
theorem z_eq (d : Fin 4) (q : PosShare TreeShare) (f : Vec F S2x4x256 .f32) :
    zPts c d q f = (((c : Thread nD τ).loc cc0_scratch0) ↦[zset d]{q} f) := rfl
/-- A slot of the second gathering, by its elements. -/
theorem p_eq (k : Fin 8) (q : PosShare TreeShare) (f : Vec F S2x8x4x256 .f32) :
    pPts c k q f = (((c : Thread nD τ).loc cc0_scratch1) ↦[pset k]{q} f) := rfl
/-- The whole first gathering, by its elements. -/
theorem za_eq (q : PosShare TreeShare) (f : Vec F S2x4x256 .f32) :
    zAll c q f = (((c : Thread nD τ).loc cc0_scratch0) ↦{q} f) := rfl
/-- The whole second gathering, by its elements. -/
theorem pa_eq (q : PosShare TreeShare) (f : Vec F S2x8x4x256 .f32) :
    pAll c q f = (((c : Thread nD τ).loc cc0_scratch1) ↦{q} f) := rfl

/-- The first gathering is its four slots. -/
theorem z_slots (q : PosShare TreeShare) (f : Vec F S2x4x256 .f32) :
    zAll c q f = iprop(zPts c 0 q f ∗ zPts c 1 q f ∗ zPts c 2 q f ∗ zPts c 3 q f) := by
  rw [← four fun d => zPts c d q f]
  unfold zAll zPts
  exact (congrArg (fun S => (((c : Thread nD τ).loc cc0_scratch0) ↦[S]{q} f : sProp 𝕄)) zset_cover.symm).trans
    (pointsTo_biUnion (ℓ := (c : Thread nD τ).loc cc0_scratch0) Finset.univ zset (fun _ _ _ _ h => zset_disjoint h))
/-- The second gathering is its eight slots. -/
theorem p_slots (q : PosShare TreeShare) (f : Vec F S2x8x4x256 .f32) :
    pAll c q f = iprop(pPts c 0 q f ∗ pPts c 1 q f ∗ pPts c 2 q f ∗ pPts c 3 q f ∗ pPts c 4 q f ∗ pPts c 5 q f ∗ pPts c 6 q f ∗ pPts c 7 q f) := by
  rw [← eight fun k => pPts c k q f]
  unfold pAll pPts
  exact (congrArg (fun S => (((c : Thread nD τ).loc cc0_scratch1) ↦[S]{q} f : sProp 𝕄)) pset_cover.symm).trans
    (pointsTo_biUnion (ℓ := (c : Thread nD τ).loc cc0_scratch1) Finset.univ pset (fun _ _ _ _ h => pset_disjoint h))

/-- What of a slot is set aside for three readers. -/
def aside (d : Fin 4) (f : Vec F S2x4x256 .f32) : sProp 𝕄 :=
  iprop(zPts c d (Transfers.shareTok fullShare 3 0) f ∗ zPts c d (Transfers.shareTok fullShare 3 1) f ∗ zPts c d (Transfers.shareTok fullShare 3 2) f)

/-- A slot divided into the part that is lent later and the part set aside. -/
theorem z_divide (d : Fin 4) (f : Vec F S2x4x256 .f32) : zPts c d fullShare f ⊢ iprop(zPts c d q3 f ∗ aside c d f) := by
  unfold aside; rw [← three fun i => zPts c d (Transfers.shareTok fullShare 3 i) f]
  unfold zPts; exact Transfers.pointsTo_toks_split fullShare 3
/-- The two parts united. -/
theorem z_unite (d : Fin 4) (f : Vec F S2x4x256 .f32) : iprop(zPts c d q3 f ∗ aside c d f) ⊢ zPts c d fullShare f := by
  unfold aside; rw [← three fun i => zPts c d (Transfers.shareTok fullShare 3 i) f]
  unfold zPts; exact Transfers.pointsTo_toks_join fullShare 3

/-- Slot 0 divided: what stays, and what the three transfers across the groups read. -/
theorem slot_split : zPts c 0 fullShare (GZ x c) ⊢ iprop(zPts c 0 q3 (GZ x c) ∗ lent x c (.inl 0) ∗ lent x c (.inl 1) ∗ lent x c (.inl 2)) :=
  z_divide c 0 (GZ x c)
/-- The shares lent to the first hop, given back. -/
theorem slot_join : iprop(zPts c 0 q3 (GZ x c) ∗ lent x c (.inl 0) ∗ lent x c (.inl 1) ∗ lent x c (.inl 2)) ⊢ zPts c 0 fullShare (GZ x c) :=
  z_unite c 0 (GZ x c)

/-- The first gathering divided: what stays, and what the seven transfers inside the group read. -/
theorem all_split : zAll c q3 (GZ x c) ⊢ iprop(zAll c q10 (GZ x c) ∗ lent x c (.inr 0) ∗ lent x c (.inr 1) ∗ lent x c (.inr 2) ∗ lent x c (.inr 3)
    ∗ lent x c (.inr 4) ∗ lent x c (.inr 5) ∗ lent x c (.inr 6)) := by
  rw [← seven fun k => lent x c (.inr k)]
  unfold lent zAll; exact Transfers.pointsTo_toks_split q3 7
/-- The shares lent to the second hop, given back. -/
theorem all_join : iprop(zAll c q10 (GZ x c) ∗ lent x c (.inr 0) ∗ lent x c (.inr 1) ∗ lent x c (.inr 2) ∗ lent x c (.inr 3)
    ∗ lent x c (.inr 4) ∗ lent x c (.inr 5) ∗ lent x c (.inr 6)) ⊢ zAll c q3 (GZ x c) := by
  rw [← seven fun k => lent x c (.inr k)]
  unfold lent zAll; exact Transfers.pointsTo_toks_join q3 7

/-- The four slots put together: what stays of each, and what is aside of those that arrived. -/
theorem gathered : iprop(zPts c 0 q3 (GZ x c) ∗ landed x c (.inl 0) ∗ landed x c (.inl 1) ∗ landed x c (.inl 2))
    ⊢ iprop(zAll c q3 (GZ x c) ∗ aside c 1 (GZ x c) ∗ aside c 2 (GZ x c) ∗ aside c 3 (GZ x c)) := by
  iintro ⟨H0, H1, H2, H3⟩
  ihave H1 := ((Entails.of_eq (rfl : landed x c (.inl 0) = zPts c 1 fullShare (GZ x c))).trans (z_divide c 1 (GZ x c))) $$ H1
  ihave H2 := ((Entails.of_eq (rfl : landed x c (.inl 1) = zPts c 2 fullShare (GZ x c))).trans (z_divide c 2 (GZ x c))) $$ H2
  ihave H3 := ((Entails.of_eq (rfl : landed x c (.inl 2) = zPts c 3 fullShare (GZ x c))).trans (z_divide c 3 (GZ x c))) $$ H3
  icases H1 with ⟨H1, $⟩
  icases H2 with ⟨H2, $⟩
  icases H3 with ⟨H3, $⟩
  rw [z_slots]
  iframe H0 H1 H2 H3
/-- Everything of the first gathering together again. -/
theorem ungathered : iprop(zAll c q3 (GZ x c) ∗ (aside c 1 (GZ x c) ∗ aside c 2 (GZ x c) ∗ aside c 3 (GZ x c)) ∗ lent x c (.inl 0) ∗ lent x c (.inl 1) ∗ lent x c (.inl 2))
    ⊢ zAll c fullShare (GZ x c) := by
  rw [z_slots, z_slots]
  iintro ⟨⟨H0, H1, H2, H3⟩, ⟨A1, A2, A3⟩, A0⟩
  isplitl [H0 A0]; · iapply (slot_join x c); isplitl [H0] <;> iassumption
  isplitl [H1 A1]; · iapply (z_unite c 1 (GZ x c)); isplitl [H1] <;> iassumption
  isplitl [H2 A2]; · iapply (z_unite c 2 (GZ x c)); isplitl [H2] <;> iassumption
  iapply (z_unite c 3 (GZ x c)); isplitl [H3] <;> iassumption
/-- The eight slots of the second gathering put together. -/
theorem filled : iprop(pPts c 0 fullShare (GP x c) ∗ landed x c (.inr 0) ∗ landed x c (.inr 1) ∗ landed x c (.inr 2) ∗ landed x c (.inr 3)
    ∗ landed x c (.inr 4) ∗ landed x c (.inr 5) ∗ landed x c (.inr 6)) ⊢ pAll c fullShare (GP x c) :=
  Entails.of_eq (p_slots c fullShare (GP x c)).symm

/-- The result's buffer in local memory, whole. -/
theorem r_eq (f : Vec F S2x256 .f32) : rPts c f = (((c : Thread nD τ).loc cc0_scratch3) ↦{fullShare} f) := rfl
/-- The two stores of the result leave the whole of it. -/
theorem r_done (f : Vec F S2x256 .f32) :
    ((((c : Thread nD τ).loc cc0_scratch3) ↦{fullShare} ((reM.access rr1).write (Elt F) ((reM.access rr0).write (Elt F) f (k0_pay8 (k0_pay6 (tops x c))) Finset.univ)
      (k0_pay9 (k0_pay7 (tops x c) (spots x c))) Finset.univ)) : sProp 𝕄) = rPts c (out x c) := by
  unfold rPts; rw [rstore]
/-- What the block's copy hands over. -/
theorem handed_block : handed x c .block = iprop(xPts c (x c) ∗ inPts c fullShare (x c)) := rfl
/-- What the result's copy hands over. -/
theorem handed_result : handed x c .result = iprop(outPts c (out x c) ∗ rPts c (out x c)) := rfl

end Shares

end Peer
-- ==== Proof.Parts.lean ====
/- The kernel's body, part by part: what each part takes and what it leaves. -/
module

public import proofs.«01_k».proof.Proof.Steps
public import proofs.«01_k».proof.Proof.Shares

@[expose] public section

noncomputable section

namespace Peer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What a signal of readiness takes. -/
def ask (c : Dev nD) (e : D) : sProp 𝕄 := iprop(dutyTok ER (barCell (peer e c)) 0 e ∗ free c (inv e))
/-- The two duties that a transfer pays. -/
def pair (c : Dev nD) (e : D) : sProp 𝕄 :=
  iprop(dutyTok ER (dmaCell c (sendIx e)) 0 (.inl 0) ∗ dutyTok ER (dmaCell (peer e c) (recvIx e)) 0 (.inl 0))
/-- What a wait for a transfer takes. -/
def await (c : Dev nD) (i : Fin 26) (u : Use) : sProp 𝕄 :=
  iprop(cred (tallyAt (dmaCell c i) () (worth u)) ∗ atPos ER (dmaCell c i) 0 ∅ 0)

/-- What is still owed after the first four signals. -/
abbrev pay4 : List Payment :=
  (true, .inr 1) :: (true, .inr 2) :: (true, .inr 3) :: (true, .inr 4) :: (true, .inr 5) :: (true, .inr 6) :: transfers

/-- What is owed after the fourth transfer within the group. -/
abbrev pay17 : List Payment := (false, .inr 4) :: (false, .inr 5) :: (false, .inr 6) :: []
/-- What is owed after the first transfer within the group. -/
abbrev pay14 : List Payment := (false, .inr 1) :: (false, .inr 2) :: (false, .inr 3) :: pay17
/-- What is owed after the transfers across the groups. -/
abbrev pay13 : List Payment :=
  (false, .inr 0) :: (false, .inr 1) :: (false, .inr 2) :: (false, .inr 3) :: (false, .inr 4) :: (false, .inr 5) :: (false, .inr 6) :: []
/-- What is still owed after the first transfer across the groups. -/
abbrev pay11 : List Payment := (false, .inl 1) :: (false, .inl 2) :: pay13

/-- A load of the whole block reads the block. -/
theorem read_x (f : Vec F S256x256 .f32) :
    xvM.view.readAt (Elt F) (Rect.unit (s := S256x256) ![0, 0] S256x256.size inb_S256x256_S256x256_0_0).toLoadRect f = f :=
  Memref.readAt_unit_zero (Elt F) cc0_scratch2 (funext fun a => by fin_cases a <;> rfl) _ f
/-- A load of the whole first gathering reads it. -/
theorem read_z (f : Vec F S2x4x256 .f32) :
    gzM.view.readAt (Elt F) (Rect.unit (s := S2x4x256) ![0, 0, 0] S2x4x256.size inb_S2x4x256_S2x4x256_0_0_0).toLoadRect f = f :=
  Memref.readAt_unit_zero (Elt F) cc0_scratch0 (funext fun a => by fin_cases a <;> rfl) _ f
section Parts
variable (x : Blocks F) (Kb : Dev nD → ℕ) (K : Dev nD × Fin 26 → ℕ) (c : Dev nD)

/-- The wait for an exchange's landing. -/
theorem step_recv {α : Type} {Q : α → sProp 𝕄} {k : PUnit → Prog (TpuEff nD τ sig (Elt F) Λ₀ .tc) α}
    (e : D) {sem : DmaSem sig} (hs : sem = recvIx e) {sp sp' : Space} {s s' : Shape} {t t' : EltTy}
    {src : Memref sig .tc sp s t} {dst : Memref sig .tc sp' s' t'} {h1 : src.view.WordExact} {h2 : dst.view.WordExact}
    (hd : dst.view.dmaCredit = worth (.recv e)) (l : List Payment) (hl : ∀ o ∈ l, useLevel (.recv e) < payLevel o) :
    iprop(records x Kb K ∗ owing c l ∗ cred (tallyAt (dmaCell c (recvIx e)) () (worth (.recv e))) ∗ atPos ER (dmaCell c (recvIx e)) 0 ∅ 0)
      ⊢ iprop(((owing c l ∗ landed x c e ∗ semVal (dmaCell c (recvIx e)) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst h1 h2) k) Q) :=
  step_wait x Kb K c (use_recv e) hs Use.noConfusion hd l hl

/-- The wait for an exchange's send to have been read. -/
theorem step_sent {α : Type} {Q : α → sProp 𝕄} {k : PUnit → Prog (TpuEff nD τ sig (Elt F) Λ₀ .tc) α}
    (e : D) {sem : DmaSem sig} (hs : sem = sendIx e) {sp sp' : Space} {s s' : Shape} {t t' : EltTy}
    {src : Memref sig .tc sp s t} {dst : Memref sig .tc sp' s' t'} {h1 : src.view.WordExact} {h2 : dst.view.WordExact}
    (hd : dst.view.dmaCredit = worth (.send e)) :
    iprop(records x Kb K ∗ owing c [] ∗ cred (tallyAt (dmaCell c (sendIx e)) () (worth (.send e))) ∗ atPos ER (dmaCell c (sendIx e)) 0 ∅ 0)
      ⊢ iprop(((owing c [] ∗ lent x c e ∗ semVal (dmaCell c (sendIx e)) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst h1 h2) k) Q) :=
  step_wait x Kb K c (use_send e) hs Use.noConfusion hd [] (fun _ h => absurd h List.not_mem_nil)

/-- The copy of the block starts; the partners of the other groups and the next device hear that this one is ready. -/
theorem part1 {α : Type} {Q : α → sProp 𝕄}
    {k : (Σ' (d0 : Dev nD) (v2 : BitVec 32) (v3 : BitVec 32) (v4 : BitVec 32) (v5 : Sems sig S_) (v7 : BitVec 32) (v11 : BitVec 32) (v15 : BitVec 32) (v20 : BitVec 32) (v25 : BitVec 32), BitVec 32) → Prog (TpuEff nD τ sig (Elt F) Λ₀ .tc) α} :
    iprop(records x Kb K ∗ owing c payments ∗ inPts c fullShare (x c) ∗ (∃ f, xPts c f) ∗ dutyTok ER (dmaCell c 24) 0 (.inl 0)
        ∗ ask c (.inl 0) ∗ ask c (.inl 1) ∗ ask c (.inl 2) ∗ ask c (.inr 0))
      ⊢ iprop((∀ v3 v4 v7 v11 v15 v20 v25 v26, (owing c pay4 ∗ cred (tallyAt (dmaCell c 24) () (worth .block)))
            -∗ wp frame (wpE (defs₀ (F := F)) 𝒱₀ (c : Thread nD τ) none) Set.univ
                (k ⟨c, wordOf c, v3, v4, SemArray.scalar (sig.barrier 0 rfl), v7, v11, v15, v20, v25, v26⟩) Q)
          -∗ wp frame (wpE (defs₀ (F := F)) 𝒱₀ (c : Thread nD τ) none) Set.univ
              (k0_part1 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 >>= k) Q) := by
  rw [k0_part1_eq_skeleton]; unfold k0_part1_skel
  simp only [semSignalWord, semWaitWord, Prog.lift, Prog.bind_op, Prog.bind_ret, Prog.pure_eq_ret, wp_deviceId, bind_assoc]
  unfold ask
  iintro ⟨#HR, HO, Hin, Hx, Ht, ⟨Ha0, Hf0⟩, ⟨Ha1, Hf1⟩, ⟨Ha2, Hf2⟩, ⟨Ha3, Hf3⟩⟩ Hk
  iapply (step_block x Kb K c rfl rfl rfl) $$ [$HR $Hin $Hx $Ht]
  iintro Hc
  iapply (step_signal x Kb K c (.inl 0) (dev1_eq c) rfl _) $$ [$HR $HO $Ha0 $Hf0]
  iintro HO
  iapply (step_signal x Kb K c (.inl 1) (dev2_eq c) rfl _) $$ [$HR $HO $Ha1 $Hf1]
  iintro HO
  iapply (step_signal x Kb K c (.inl 2) (dev3_eq c) rfl _) $$ [$HR $HO $Ha2 $Hf2]
  iintro HO
  iapply (step_signal x Kb K c (.inr 0) (dev4_eq c) rfl _) $$ [$HR $HO $Ha3 $Hf3]
  iintro HO
  iapply Hk $$ [$HO $Hc]
/-- The rest of the group hears that this device is ready; the block arrives in local memory. -/
theorem part2 {v3 v4 v26 : BitVec 32} {α : Type} {Q : α → sProp 𝕄}
    {k : (Σ' (v30 : BitVec 32) (v35 : BitVec 32) (v40 : BitVec 32) (v45 : BitVec 32), BitVec 32) → Prog (TpuEff nD τ sig (Elt F) Λ₀ .tc) α} :
    iprop(records x Kb K ∗ owing c pay4 ∗ ask c (.inr 1) ∗ ask c (.inr 2) ∗ ask c (.inr 3) ∗ ask c (.inr 4) ∗ ask c (.inr 5) ∗ ask c (.inr 6)
        ∗ cred (tallyAt (dmaCell c 24) () (worth .block)) ∗ atPos ER (dmaCell c 24) 0 ∅ 0)
      ⊢ iprop((∀ v30 v35 v40 v45 v50, (owing c transfers ∗ (xPts c (x c) ∗ inPts c fullShare (x c)) ∗ semVal (dmaCell c 24) 0)
            -∗ wp frame (wpE (defs₀ (F := F)) 𝒱₀ (c : Thread nD τ) none) Set.univ (k ⟨v30, v35, v40, v45, v50⟩) Q)
          -∗ wp frame (wpE (defs₀ (F := F)) 𝒱₀ (c : Thread nD τ) none) Set.univ
              (k0_part2 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 c v3 v4 (SemArray.scalar (sig.barrier 0 rfl)) v26 >>= k) Q) := by
  rw [k0_part2_eq_skeleton]; unfold k0_part2_skel
  simp only [semSignalWord, semWaitWord, Prog.lift, Prog.bind_op, Prog.bind_ret, Prog.pure_eq_ret, bind_assoc, ask, await, pair]
  iintro ⟨#HR, HO, ⟨Ha1, Hf1⟩, ⟨Ha2, Hf2⟩, ⟨Ha3, Hf3⟩, ⟨Ha4, Hf4⟩, ⟨Ha5, Hf5⟩, ⟨Ha6, Hf6⟩, Hc, Hat⟩ Hk
  iapply (step_signal x Kb K c (.inr 1) (dev5_eq c) rfl _) $$ [$HR $HO $Ha1 $Hf1]
  iintro HO
  iapply (step_signal x Kb K c (.inr 2) (dev6_eq c) rfl _) $$ [$HR $HO $Ha2 $Hf2]
  iintro HO
  iapply (step_signal x Kb K c (.inr 3) (dev7_eq c) rfl _) $$ [$HR $HO $Ha3 $Hf3]
  iintro HO
  iapply (step_signal x Kb K c (.inr 4) (dev8_eq c) rfl _) $$ [$HR $HO $Ha4 $Hf4]
  iintro HO
  iapply (step_signal x Kb K c (.inr 5) (dev9_eq c) rfl _) $$ [$HR $HO $Ha5 $Hf5]
  iintro HO
  iapply (step_signal x Kb K c (.inr 6) (dev10_eq c) rfl _) $$ [$HR $HO $Ha6 $Hf6]
  iintro HO
  iapply (step_wait x Kb K c use_block rfl Use.noConfusion rfl _ (by decide)) $$ [$HR $HO $Hc $Hat]
  iintro ⟨HO, Hp, Hz⟩
  ihave Hp := (Entails.of_eq (handed_block x c)) $$ Hp
  iapply Hk $$ [$HO $Hp $Hz]

/-- This device's maxima and their rows go into slot 0, and the transfer to the first partner starts. -/
theorem part3 {v7 : BitVec 32} {α : Type} {Q : α → sProp 𝕄}
    {k : PUnit → Prog (TpuEff nD τ sig (Elt F) Λ₀ .tc) α} :
    iprop(records x Kb K ∗ owing c transfers ∗ xPts c (x c) ∗ (∃ f, zPts c 0 fullShare f) ∗ cred (tallyAt (barCell c) () 24) ∗ atPos ER (barCell c) 0 ∅ 0 ∗ pair c (.inl 0))
      ⊢ iprop(((owing c pay11 ∗ xPts c (x c) ∗ half c ∗ free (peer (.inl 1) c) (.inl 1) ∗ free (peer (.inl 2) c) (.inl 2)
            ∗ zPts c 0 q3 (GZ x c) ∗ lent x c (.inl 1) ∗ lent x c (.inl 2) ∗ cred (tallyAt (dmaCell c (sendIx (.inl 0))) () (worth (.send (.inl 0)))))
            -∗ wp frame (wpE (defs₀ (F := F)) 𝒱₀ (c : Thread nD τ) none) Set.univ (k ⟨⟩) Q)
          -∗ wp frame (wpE (defs₀ (F := F)) 𝒱₀ (c : Thread nD τ) none) Set.univ
              (k0_part3 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 c (wordOf c) (SemArray.scalar (sig.barrier 0 rfl)) v7 >>= k) Q) := by
  rw [k0_part3_eq_skeleton]; unfold k0_part3_skel
  simp only [semSignalWord, semWaitWord, Prog.lift, Prog.bind_op, Prog.bind_ret, Prog.pure_eq_ret, bind_assoc, ask, await, pair]
  iintro ⟨#HR, HO, Hx, Hz, Hb, Hat, ⟨HtS, HtR⟩⟩ Hk
  unfold xPts
  iapply (wp_load 𝒱₀ (c : Thread nD τ) none Set.univ (m := xvM) (Finset.subset_univ _)) $$ Hx
  iintro Hx
  rw [read_x]
  icases Hz with ⟨%f, Hz⟩
  ihave Hz := (Entails.of_eq (z_eq c 0 fullShare f)) $$ Hz
  iapply (wp_load_rect 𝒱₀ (c : Thread nD τ) none Set.univ (m := gzM) (r := rz0) rz0_sub) $$ Hz
  iintro Hz
  iapply (wp_store 𝒱₀ (c : Thread nD τ) none Set.univ (m := gzM) (r := rz0) (Mk := Finset.univ) rz0_sub) $$ Hz
  iintro Hz
  iapply (wp_load_rect 𝒱₀ (c : Thread nD τ) none Set.univ (m := gzM) (r := rz1) rz1_sub) $$ Hz
  iintro Hz
  iapply (wp_store 𝒱₀ (c : Thread nD τ) none Set.univ (m := gzM) (r := rz1) (Mk := Finset.univ) rz1_sub) $$ Hz
  iintro Hz
  ihave Hz := (Entails.of_eq ((pointsTo_congr (zstore x c f)).trans (rfl : _ = zPts c 0 fullShare (GZ x c)))) $$ Hz
  ihave Hz := (slot_split x c) $$ Hz
  icases Hz with ⟨Hq, Hl0, Hl1, Hl2⟩
  iapply (step_ready x Kb K c _ (by decide)) $$ [$HR $HO $Hb $Hat]
  iintro ⟨HO, Hh, H0, H1, H2⟩
  iapply (step_send_z x Kb K c 0 (dev11_eq c) rfl rfl rfl rfl _) $$ [$HR $HO $Hl0 $H0 $HtS $HtR]
  iintro ⟨HO, Hc⟩
  iapply Hk $$ [$HO $Hx $Hh $H1 $H2 $Hq $Hl1 $Hl2 $Hc]

/-- PART4 The transfers to the other partners start; the first partner's slot arrives. -/
theorem part4 {v7 v11 v15 : BitVec 32} {α : Type} {Q : α → sProp 𝕄}
    {k : PUnit → Prog (TpuEff nD τ sig (Elt F) Λ₀ .tc) α} :
    iprop(records x Kb K ∗ owing c pay11 ∗ lent x c (.inl 1) ∗ free (peer (.inl 1) c) (.inl 1) ∗ pair c (.inl 1) ∗ lent x c (.inl 2) ∗ free (peer (.inl 2) c) (.inl 2) ∗ pair c (.inl 2) ∗ await c (recvIx (.inl 0)) (.recv (.inl 0)))
      ⊢ iprop(((owing c pay13 ∗ cred (tallyAt (dmaCell c (sendIx (.inl 1))) () (worth (.send (.inl 1)))) ∗ cred (tallyAt (dmaCell c (sendIx (.inl 2))) () (worth (.send (.inl 2))))
            ∗ landed x c (.inl 0) ∗ semVal (dmaCell c (recvIx (.inl 0))) 0)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part4 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 c v7 v11 v15 >>= k) Q) := by
  rw [k0_part4_eq_skeleton]; unfold k0_part4_skel
  simp only [semSignalWord, semWaitWord, Prog.lift, Prog.bind_op, Prog.bind_ret, Prog.pure_eq_ret, bind_assoc, ask, await, pair]
  iintro ⟨#HR, HO, Hl1, Hf1, ⟨Hp1S, Hp1R⟩, Hl2, Hf2, ⟨Hp2S, Hp2R⟩, ⟨Hw, Hat⟩⟩ Hk
  iapply (step_send_z x Kb K c 1 (dev12_eq c) rfl rfl rfl rfl _) $$ [$HR $HO $Hl1 $Hf1 $Hp1S $Hp1R]
  iintro ⟨HO, Hc1⟩
  iapply (step_send_z x Kb K c 2 (dev13_eq c) rfl rfl rfl rfl _) $$ [$HR $HO $Hl2 $Hf2 $Hp2S $Hp2R]
  iintro ⟨HO, Hc2⟩
  iapply (step_recv x Kb K c (.inl 0) (by rfl) (by rfl) _ (by decide)) $$ [$HR $HO $Hw $Hat]
  iintro ⟨HO, Hg, Hv⟩
  iapply Hk $$ [$HO $Hc1 $Hc2 $Hg $Hv]

/-- The other partners' slots arrive, the group is ready, and the first transfer inside the group starts. -/
theorem part5 {v11 v15 v20 v25 : BitVec 32} {α : Type} {Q : α → sProp 𝕄}
    {k : BitVec 32 → Prog (TpuEff nD τ sig (Elt F) Λ₀ .tc) α} :
    iprop(records x Kb K ∗ owing c pay13 ∗ await c (recvIx (.inl 1)) (.recv (.inl 1)) ∗ await c (recvIx (.inl 2)) (.recv (.inl 2)) ∗ cred (tallyAt (barCell c) () 7) ∗ half c
        ∗ zPts c 0 q3 (GZ x c) ∗ landed x c (.inl 0) ∗ pair c (.inr 0))
      ⊢ iprop((∀ v134, (owing c pay14 ∗ cred (tallyAt (dmaCell c (sendIx (.inr 0))) () (worth (.send (.inr 0)))) ∗ semVal (dmaCell c (recvIx (.inl 1))) 0 ∗ semVal (dmaCell c (recvIx (.inl 2))) 0 ∗ semVal (barCell c) 0
            ∗ zAll c q10 (GZ x c) ∗ aside c 1 (GZ x c) ∗ aside c 2 (GZ x c) ∗ aside c 3 (GZ x c)
            ∗ free (peer (.inr 1) c) (.inr 1) ∗ free (peer (.inr 2) c) (.inr 2) ∗ free (peer (.inr 3) c) (.inr 3) ∗ free (peer (.inr 4) c) (.inr 4) ∗ free (peer (.inr 5) c) (.inr 5) ∗ free (peer (.inr 6) c) (.inr 6)
            ∗ lent x c (.inr 1) ∗ lent x c (.inr 2) ∗ lent x c (.inr 3) ∗ lent x c (.inr 4) ∗ lent x c (.inr 5) ∗ lent x c (.inr 6))
            -∗ wp frame (wpE (defs₀ (F := F)) 𝒱₀ (c : Thread nD τ) none) Set.univ (k v134) Q)
          -∗ wp frame (wpE (defs₀ (F := F)) 𝒱₀ (c : Thread nD τ) none) Set.univ
              (k0_part5 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 c (SemArray.scalar (sig.barrier 0 rfl)) v11 v15 v20 v25 >>= k) Q) := by
  rw [k0_part5_eq_skeleton]; unfold k0_part5_skel
  simp only [semSignalWord, semWaitWord, Prog.lift, Prog.bind_op, Prog.bind_ret, Prog.pure_eq_ret, bind_assoc, ask, await, pair]
  iintro ⟨#HR, HO, ⟨Hw1, Hat1⟩, ⟨Hw2, Hat2⟩, Hb, Hh, Hz, Hg0, ⟨HpS, HpR⟩⟩ Hk
  iapply (step_recv x Kb K c (.inl 1) (by rfl) (by rfl) _ (by decide)) $$ [$HR $HO $Hw1 $Hat1]
  iintro ⟨HO, Hg1, Hv1⟩
  iapply (step_recv x Kb K c (.inl 2) (by rfl) (by rfl) _ (by decide)) $$ [$HR $HO $Hw2 $Hat2]
  iintro ⟨HO, Hg2, Hv2⟩
  iapply (step_group x Kb K c _ (by decide)) $$ [$HR $HO $Hb $Hh]
  iintro ⟨HO, Hvb, Hf0, Hf1, Hf2, Hf3, Hf4, Hf5, Hf6⟩
  ihave Hz := (gathered x c) $$ [$Hz $Hg0 $Hg1 $Hg2]
  icases Hz with ⟨Hz, Ha1, Ha2, Ha3⟩
  ihave Hz := (all_split x c) $$ Hz
  icases Hz with ⟨Hz, Hl0, Hl1, Hl2, Hl3, Hl4, Hl5, Hl6⟩
  iapply (step_send_p x Kb K c 0 (dev14_eq c) rfl rfl rfl rfl _) $$ [$HR $HO $Hl0 $Hf0 $HpS $HpR]
  iintro ⟨HO, Hc0⟩
  iapply Hk $$ [$HO $Hc0 $Hv1 $Hv2 $Hvb $Hz $Ha1 $Ha2 $Ha3 $Hf1 $Hf2 $Hf3 $Hf4 $Hf5 $Hf6 $Hl1 $Hl2 $Hl3 $Hl4 $Hl5 $Hl6]

/-- Three more transfers inside the group start. -/
theorem part6 {v30 v35 v40 v134 : BitVec 32} {α : Type} {Q : α → sProp 𝕄}
    {k : PUnit → Prog (TpuEff nD τ sig (Elt F) Λ₀ .tc) α} :
    iprop(records x Kb K ∗ owing c pay14 ∗ lent x c (.inr 1) ∗ free (peer (.inr 1) c) (.inr 1) ∗ pair c (.inr 1) ∗ lent x c (.inr 2) ∗ free (peer (.inr 2) c) (.inr 2) ∗ pair c (.inr 2) ∗ lent x c (.inr 3) ∗ free (peer (.inr 3) c) (.inr 3) ∗ pair c (.inr 3))
      ⊢ iprop(((owing c pay17 ∗ cred (tallyAt (dmaCell c (sendIx (.inr 1))) () (worth (.send (.inr 1)))) ∗ cred (tallyAt (dmaCell c (sendIx (.inr 2))) () (worth (.send (.inr 2)))) ∗ cred (tallyAt (dmaCell c (sendIx (.inr 3))) () (worth (.send (.inr 3)))))
            -∗ wp frame (wpE (defs₀ (F := F)) 𝒱₀ (c : Thread nD τ) none) Set.univ (k ⟨⟩) Q)
          -∗ wp frame (wpE (defs₀ (F := F)) 𝒱₀ (c : Thread nD τ) none) Set.univ
              (k0_part6 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 c v30 v35 v40 v134 >>= k) Q) := by
  rw [k0_part6_eq_skeleton]; unfold k0_part6_skel
  simp only [semSignalWord, semWaitWord, Prog.lift, Prog.bind_op, Prog.bind_ret, Prog.pure_eq_ret, bind_assoc, ask, await, pair]
  iintro ⟨#HR, HO, Hl1, Hf1, ⟨Hp1S, Hp1R⟩, Hl2, Hf2, ⟨Hp2S, Hp2R⟩, Hl3, Hf3, ⟨Hp3S, Hp3R⟩⟩ Hk
  iapply (step_send_p x Kb K c 1 (dev15_eq c) rfl rfl rfl rfl _) $$ [$HR $HO $Hl1 $Hf1 $Hp1S $Hp1R]
  iintro ⟨HO, Hc1⟩
  iapply (step_send_p x Kb K c 2 (dev16_eq c) rfl rfl rfl rfl _) $$ [$HR $HO $Hl2 $Hf2 $Hp2S $Hp2R]
  iintro ⟨HO, Hc2⟩
  iapply (step_send_p x Kb K c 3 (dev17_eq c) rfl rfl rfl rfl _) $$ [$HR $HO $Hl3 $Hf3 $Hp3S $Hp3R]
  iintro ⟨HO, Hc3⟩
  iapply Hk $$ [$HO $Hc1 $Hc2 $Hc3]

/-- The last three transfers inside the group start; this device's own slots are copied into the second gathering. -/
theorem part7 {v20 v45 v50 : BitVec 32} {α : Type} {Q : α → sProp 𝕄}
    {k : PUnit → Prog (TpuEff nD τ sig (Elt F) Λ₀ .tc) α} :
    iprop(records x Kb K ∗ owing c pay17 ∗ lent x c (.inr 4) ∗ free (peer (.inr 4) c) (.inr 4) ∗ pair c (.inr 4) ∗ lent x c (.inr 5) ∗ free (peer (.inr 5) c) (.inr 5) ∗ pair c (.inr 5) ∗ lent x c (.inr 6) ∗ free (peer (.inr 6) c) (.inr 6) ∗ pair c (.inr 6)
        ∗ zAll c q10 (GZ x c) ∗ (∃ f, pPts c 0 fullShare f))
      ⊢ iprop(((owing c [] ∗ cred (tallyAt (dmaCell c (sendIx (.inr 4))) () (worth (.send (.inr 4)))) ∗ cred (tallyAt (dmaCell c (sendIx (.inr 5))) () (worth (.send (.inr 5)))) ∗ cred (tallyAt (dmaCell c (sendIx (.inr 6))) () (worth (.send (.inr 6)))) ∗ zAll c q10 (GZ x c) ∗ pPts c 0 fullShare (GP x c))
            -∗ wp frame (wpE (defs₀ (F := F)) 𝒱₀ (c : Thread nD τ) none) Set.univ (k ⟨⟩) Q)
          -∗ wp frame (wpE (defs₀ (F := F)) 𝒱₀ (c : Thread nD τ) none) Set.univ
              (k0_part7 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 c v20 v45 v50 >>= k) Q) := by
  rw [k0_part7_eq_skeleton]; unfold k0_part7_skel
  simp only [semSignalWord, semWaitWord, Prog.lift, Prog.bind_op, Prog.bind_ret, Prog.pure_eq_ret, bind_assoc, ask, await, pair]
  iintro ⟨#HR, HO, Hl4, Hf4, ⟨Hp4S, Hp4R⟩, Hl5, Hf5, ⟨Hp5S, Hp5R⟩, Hl6, Hf6, ⟨Hp6S, Hp6R⟩, Hz, Hp⟩ Hk
  iapply (step_send_p x Kb K c 4 (dev18_eq c) rfl rfl rfl rfl _) $$ [$HR $HO $Hl4 $Hf4 $Hp4S $Hp4R]
  iintro ⟨HO, Hc4⟩
  iapply (step_send_p x Kb K c 5 (dev19_eq c) rfl rfl rfl rfl _) $$ [$HR $HO $Hl5 $Hf5 $Hp5S $Hp5R]
  iintro ⟨HO, Hc5⟩
  iapply (step_send_p x Kb K c 6 (dev20_eq c) rfl rfl rfl rfl _) $$ [$HR $HO $Hl6 $Hf6 $Hp6S $Hp6R]
  iintro ⟨HO, Hc6⟩
  ihave Hz := (Entails.of_eq (za_eq c q10 (GZ x c))) $$ Hz
  iapply (wp_load 𝒱₀ (c : Thread nD τ) none Set.univ (m := gzM) (Finset.subset_univ _)) $$ Hz
  iintro Hz
  rw [read_z]
  ihave Hz := (Entails.of_eq (za_eq c q10 (GZ x c)).symm) $$ Hz
  icases Hp with ⟨%f, Hp⟩
  ihave Hp := (Entails.of_eq (p_eq c 0 fullShare f)) $$ Hp
  iapply (wp_load_rect 𝒱₀ (c : Thread nD τ) none Set.univ (m := gpM) (r := rp0) rp0_sub) $$ Hp
  iintro Hp
  iapply (wp_store 𝒱₀ (c : Thread nD τ) none Set.univ (m := gpM) (r := rp0) (Mk := Finset.univ) rp0_sub) $$ Hp
  iintro Hp
  ihave Hp := (Entails.of_eq ((pointsTo_congr (pstore x c f)).trans (rfl : _ = pPts c 0 fullShare (GP x c)))) $$ Hp
  iapply Hk $$ [$HO $Hc4 $Hc5 $Hc6 $Hz $Hp]

/-- Four of the group's slots arrive. -/
theorem part8 {v25 v30 v35 v40 : BitVec 32} {α : Type} {Q : α → sProp 𝕄}
    {k : PUnit → Prog (TpuEff nD τ sig (Elt F) Λ₀ .tc) α} :
    iprop(records x Kb K ∗ owing c [] ∗ await c (recvIx (.inr 0)) (.recv (.inr 0)) ∗ await c (recvIx (.inr 1)) (.recv (.inr 1)) ∗ await c (recvIx (.inr 2)) (.recv (.inr 2)) ∗ await c (recvIx (.inr 3)) (.recv (.inr 3)))
      ⊢ iprop(((owing c [] ∗ landed x c (.inr 0) ∗ landed x c (.inr 1) ∗ landed x c (.inr 2) ∗ landed x c (.inr 3) ∗ semVal (dmaCell c (recvIx (.inr 0))) 0 ∗ semVal (dmaCell c (recvIx (.inr 1))) 0 ∗ semVal (dmaCell c (recvIx (.inr 2))) 0 ∗ semVal (dmaCell c (recvIx (.inr 3))) 0)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part8 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 v25 v30 v35 v40 >>= k) Q) := by
  rw [k0_part8_eq_skeleton]; unfold k0_part8_skel
  simp only [semSignalWord, semWaitWord, Prog.lift, Prog.bind_op, Prog.bind_ret, Prog.pure_eq_ret, bind_assoc, ask, await, pair]
  iintro ⟨#HR, HO, ⟨Hw0, Hat0⟩, ⟨Hw1, Hat1⟩, ⟨Hw2, Hat2⟩, ⟨Hw3, Hat3⟩⟩ Hk
  iapply (step_recv x Kb K c (.inr 0) (by rfl) (by rfl) _ (fun _ h => absurd h List.not_mem_nil)) $$ [$HR $HO $Hw0 $Hat0]
  iintro ⟨HO, Hg0, Hv0⟩
  iapply (step_recv x Kb K c (.inr 1) (by rfl) (by rfl) _ (fun _ h => absurd h List.not_mem_nil)) $$ [$HR $HO $Hw1 $Hat1]
  iintro ⟨HO, Hg1, Hv1⟩
  iapply (step_recv x Kb K c (.inr 2) (by rfl) (by rfl) _ (fun _ h => absurd h List.not_mem_nil)) $$ [$HR $HO $Hw2 $Hat2]
  iintro ⟨HO, Hg2, Hv2⟩
  iapply (step_recv x Kb K c (.inr 3) (by rfl) (by rfl) _ (fun _ h => absurd h List.not_mem_nil)) $$ [$HR $HO $Hw3 $Hat3]
  iintro ⟨HO, Hg3, Hv3⟩
  iapply Hk $$ [$HO $Hg0 $Hv0 $Hg1 $Hv1 $Hg2 $Hv2 $Hg3 $Hv3]

/-- The last of the group's slots arrive, and the second gathering is read. -/
theorem part9 {v45 v50 : BitVec 32} {α : Type} {Q : α → sProp 𝕄}
    {k : (Σ' (v234 : FVec F S256 .f32), FVec F S256 .f32) → Prog (TpuEff nD τ sig (Elt F) Λ₀ .tc) α} :
    iprop(records x Kb K ∗ owing c [] ∗ await c (recvIx (.inr 4)) (.recv (.inr 4)) ∗ await c (recvIx (.inr 5)) (.recv (.inr 5)) ∗ await c (recvIx (.inr 6)) (.recv (.inr 6))
        ∗ pPts c 0 fullShare (GP x c) ∗ landed x c (.inr 0) ∗ landed x c (.inr 1) ∗ landed x c (.inr 2) ∗ landed x c (.inr 3))
      ⊢ iprop(((owing c [] ∗ pAll c fullShare (GP x c) ∗ semVal (dmaCell c (recvIx (.inr 4))) 0 ∗ semVal (dmaCell c (recvIx (.inr 5))) 0 ∗ semVal (dmaCell c (recvIx (.inr 6))) 0)
            -∗ wp frame (wpE (defs₀ (F := F)) 𝒱₀ (c : Thread nD τ) none) Set.univ (k ⟨k0_pay6 (tops x c), k0_pay7 (tops x c) (spots x c)⟩) Q)
          -∗ wp frame (wpE (defs₀ (F := F)) 𝒱₀ (c : Thread nD τ) none) Set.univ
              (k0_part9 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 v45 v50 >>= k) Q) := by
  rw [k0_part9_eq_skeleton]; unfold k0_part9_skel
  simp only [semSignalWord, semWaitWord, Prog.lift, Prog.bind_op, Prog.bind_ret, Prog.pure_eq_ret, bind_assoc, ask, await, pair]
  iintro ⟨#HR, HO, ⟨Hw4, Hat4⟩, ⟨Hw5, Hat5⟩, ⟨Hw6, Hat6⟩, Hp, Hg0, Hg1, Hg2, Hg3⟩ Hk
  iapply (step_recv x Kb K c (.inr 4) (by rfl) (by rfl) _ (fun _ h => absurd h List.not_mem_nil)) $$ [$HR $HO $Hw4 $Hat4]
  iintro ⟨HO, Hg4, Hv4⟩
  iapply (step_recv x Kb K c (.inr 5) (by rfl) (by rfl) _ (fun _ h => absurd h List.not_mem_nil)) $$ [$HR $HO $Hw5 $Hat5]
  iintro ⟨HO, Hg5, Hv5⟩
  iapply (step_recv x Kb K c (.inr 6) (by rfl) (by rfl) _ (fun _ h => absurd h List.not_mem_nil)) $$ [$HR $HO $Hw6 $Hat6]
  iintro ⟨HO, Hg6, Hv6⟩
  ihave Hp := (filled x c) $$ [$Hp $Hg0 $Hg1 $Hg2 $Hg3 $Hg4 $Hg5 $Hg6]
  ihave Hp := (Entails.of_eq (pa_eq c fullShare (GP x c))) $$ Hp
  iapply (wp_load 𝒱₀ (c : Thread nD τ) none Set.univ (m := gpM) (Finset.subset_univ _)) $$ Hp
  iintro Hp
  iapply (wp_load 𝒱₀ (c : Thread nD τ) none Set.univ (m := gpM) (Finset.subset_univ _)) $$ Hp
  iintro Hp
  ihave Hp := (Entails.of_eq (pa_eq c fullShare (GP x c)).symm) $$ Hp
  iapply Hk $$ [$HO $Hp $Hv4 $Hv5 $Hv6]

/-- The result is written and copied out; the sends across the groups are done. -/
theorem part10 {α : Type} {Q : α → sProp 𝕄}
    {k : PUnit → Prog (TpuEff nD τ sig (Elt F) Λ₀ .tc) α} :
    iprop(records x Kb K ∗ owing c [] ∗ (∃ f, rPts c f) ∗ (∃ f, outPts c f) ∗ dutyTok ER (dmaCell c 25) 0 (.inl 0) ∗ atPos ER (dmaCell c 25) 0 ∅ 0
        ∗ await c (sendIx (.inl 0)) (.send (.inl 0)) ∗ await c (sendIx (.inl 1)) (.send (.inl 1)) ∗ await c (sendIx (.inl 2)) (.send (.inl 2)))
      ⊢ iprop(((owing c [] ∗ (outPts c (out x c) ∗ rPts c (out x c)) ∗ semVal (dmaCell c 25) 0 ∗ lent x c (.inl 0) ∗ lent x c (.inl 1) ∗ lent x c (.inl 2) ∗ semVal (dmaCell c (sendIx (.inl 0))) 0 ∗ semVal (dmaCell c (sendIx (.inl 1))) 0 ∗ semVal (dmaCell c (sendIx (.inl 2))) 0)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part10 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 (k0_pay6 (tops x c)) (k0_pay7 (tops x c) (spots x c)) >>= k) Q) := by
  rw [k0_part10_eq_skeleton]; unfold k0_part10_skel
  simp only [semSignalWord, semWaitWord, Prog.lift, Prog.bind_op, Prog.bind_ret, Prog.pure_eq_ret, bind_assoc, ask, await, pair]
  iintro ⟨#HR, HO, Hr, Ho, Ht, Hat, ⟨Hw0, Hat0⟩, ⟨Hw1, Hat1⟩, ⟨Hw2, Hat2⟩⟩ Hk
  icases Hr with ⟨%f, Hr⟩
  ihave Hr := (Entails.of_eq (r_eq c f)) $$ Hr
  iapply (wp_load 𝒱₀ (c : Thread nD τ) none Set.univ (m := reM) (Finset.subset_univ _)) $$ Hr
  iintro Hr
  iapply (wp_store 𝒱₀ (c : Thread nD τ) none Set.univ (m := reM) (r := rr0) (Mk := Finset.univ) (Finset.subset_univ _)) $$ Hr
  iintro Hr
  iapply (wp_load 𝒱₀ (c : Thread nD τ) none Set.univ (m := reM) (Finset.subset_univ _)) $$ Hr
  iintro Hr
  iapply (wp_store 𝒱₀ (c : Thread nD τ) none Set.univ (m := reM) (r := rr1) (Mk := Finset.univ) (Finset.subset_univ _)) $$ Hr
  iintro Hr
  ihave Hr := (Entails.of_eq (r_done x c f)) $$ Hr
  iapply (step_result x Kb K c rfl rfl rfl) $$ [$HR $Hr $Ho $Ht]
  iintro Hc
  iapply (step_wait x Kb K c use_result rfl Use.noConfusion rfl _ (fun _ h => absurd h List.not_mem_nil)) $$ [$HR $HO $Hc $Hat]
  iintro ⟨HO, Hp, Hz⟩
  ihave Hp := (Entails.of_eq (handed_result x c)) $$ Hp
  iapply (step_sent x Kb K c (.inl 0) (by rfl) (by rfl)) $$ [$HR $HO $Hw0 $Hat0]
  iintro ⟨HO, Hl0, Hv0⟩
  iapply (step_sent x Kb K c (.inl 1) (by rfl) (by rfl)) $$ [$HR $HO $Hw1 $Hat1]
  iintro ⟨HO, Hl1, Hv1⟩
  iapply (step_sent x Kb K c (.inl 2) (by rfl) (by rfl)) $$ [$HR $HO $Hw2 $Hat2]
  iintro ⟨HO, Hl2, Hv2⟩
  iapply Hk $$ [$HO $Hp $Hz $Hl0 $Hv0 $Hl1 $Hv1 $Hl2 $Hv2]

/-- Five of the sends inside the group are done. -/
theorem part11 {α : Type} {Q : α → sProp 𝕄}
    {k : PUnit → Prog (TpuEff nD τ sig (Elt F) Λ₀ .tc) α} :
    iprop(records x Kb K ∗ owing c [] ∗ await c (sendIx (.inr 0)) (.send (.inr 0)) ∗ await c (sendIx (.inr 1)) (.send (.inr 1)) ∗ await c (sendIx (.inr 2)) (.send (.inr 2)) ∗ await c (sendIx (.inr 3)) (.send (.inr 3)) ∗ await c (sendIx (.inr 4)) (.send (.inr 4)))
      ⊢ iprop(((owing c [] ∗ lent x c (.inr 0) ∗ lent x c (.inr 1) ∗ lent x c (.inr 2) ∗ lent x c (.inr 3) ∗ lent x c (.inr 4) ∗ semVal (dmaCell c (sendIx (.inr 0))) 0 ∗ semVal (dmaCell c (sendIx (.inr 1))) 0 ∗ semVal (dmaCell c (sendIx (.inr 2))) 0 ∗ semVal (dmaCell c (sendIx (.inr 3))) 0 ∗ semVal (dmaCell c (sendIx (.inr 4))) 0)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part11 inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9 >>= k) Q) := by
  rw [k0_part11_eq_skeleton]; unfold k0_part11_skel
  simp only [semSignalWord, semWaitWord, Prog.lift, Prog.bind_op, Prog.bind_ret, Prog.pure_eq_ret, bind_assoc, ask, await, pair]
  iintro ⟨#HR, HO, ⟨Hw0, Hat0⟩, ⟨Hw1, Hat1⟩, ⟨Hw2, Hat2⟩, ⟨Hw3, Hat3⟩, ⟨Hw4, Hat4⟩⟩ Hk
  iapply (step_sent x Kb K c (.inr 0) (by rfl) (by rfl)) $$ [$HR $HO $Hw0 $Hat0]
  iintro ⟨HO, Hl0, Hv0⟩
  iapply (step_sent x Kb K c (.inr 1) (by rfl) (by rfl)) $$ [$HR $HO $Hw1 $Hat1]
  iintro ⟨HO, Hl1, Hv1⟩
  iapply (step_sent x Kb K c (.inr 2) (by rfl) (by rfl)) $$ [$HR $HO $Hw2 $Hat2]
  iintro ⟨HO, Hl2, Hv2⟩
  iapply (step_sent x Kb K c (.inr 3) (by rfl) (by rfl)) $$ [$HR $HO $Hw3 $Hat3]
  iintro ⟨HO, Hl3, Hv3⟩
  iapply (step_sent x Kb K c (.inr 4) (by rfl) (by rfl)) $$ [$HR $HO $Hw4 $Hat4]
  iintro ⟨HO, Hl4, Hv4⟩
  iapply Hk $$ [$HO $Hl0 $Hv0 $Hl1 $Hv1 $Hl2 $Hv2 $Hl3 $Hv3 $Hl4 $Hv4]

end Parts

end Peer
-- ==== Proof.Body.lean ====
/- The kernel's body as a whole, from what the launch deals a device to what is left at the end. -/
module

public import proofs.«01_k».proof.Proof.Parts

@[expose] public section

noncomputable section

namespace Peer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Whole
variable (x : Blocks F) (Kb : Dev nD → ℕ) (K : Dev nD × Fin 26 → ℕ) (c : Dev nD)

/-- One thing per exchange, listed. -/
theorem ten (Φ : D → sProp 𝕄) : bigSep Finset.univ Φ = iprop(Φ (.inl 0) ∗ Φ (.inl 1) ∗ Φ (.inl 2) ∗ Φ (.inr 0) ∗ Φ (.inr 1) ∗ Φ (.inr 2) ∗ Φ (.inr 3) ∗ Φ (.inr 4) ∗ Φ (.inr 5) ∗ Φ (.inr 6)) :=
  bigSep_univ_eq_bigSepL order (by decide) (by decide) Φ
/-- One thing per transfer semaphore, listed by use: the idle ones, the two of the copies, the sends, the landings. -/
theorem by_use (Φ : Fin 26 → sProp 𝕄) : bigSep Finset.univ Φ
    = iprop(Φ 0 ∗ Φ 4 ∗ Φ 8 ∗ Φ 16 ∗ Φ 24 ∗ Φ 25 ∗ Φ (sendIx (.inl 0)) ∗ Φ (sendIx (.inl 1)) ∗ Φ (sendIx (.inl 2)) ∗ Φ (sendIx (.inr 0)) ∗ Φ (sendIx (.inr 1)) ∗ Φ (sendIx (.inr 2)) ∗ Φ (sendIx (.inr 3)) ∗ Φ (sendIx (.inr 4)) ∗ Φ (sendIx (.inr 5)) ∗ Φ (sendIx (.inr 6)) ∗ Φ (recvIx (.inl 0)) ∗ Φ (recvIx (.inl 1)) ∗ Φ (recvIx (.inl 2)) ∗ Φ (recvIx (.inr 0)) ∗ Φ (recvIx (.inr 1)) ∗ Φ (recvIx (.inr 2)) ∗ Φ (recvIx (.inr 3)) ∗ Φ (recvIx (.inr 4)) ∗ Φ (recvIx (.inr 5)) ∗ Φ (recvIx (.inr 6))) :=
  bigSep_univ_eq_bigSepL (I := Fin 26) [0, 4, 8, 16, 24, 25, sendIx (.inl 0), sendIx (.inl 1), sendIx (.inl 2), sendIx (.inr 0), sendIx (.inr 1), sendIx (.inr 2), sendIx (.inr 3), sendIx (.inr 4), sendIx (.inr 5), sendIx (.inr 6), recvIx (.inl 0), recvIx (.inl 1), recvIx (.inl 2), recvIx (.inr 0), recvIx (.inr 1), recvIx (.inr 2), recvIx (.inr 3), recvIx (.inr 4), recvIx (.inr 5), recvIx (.inr 6)] (by decide) (by decide) Φ

/-- The first gathering opened: the own slot, and the three that partners will write. -/
theorem z_open : iprop(∃ f, zAll (F := F) c fullShare f)
    ⊢ iprop((∃ f, zPts c 0 fullShare f) ∗ free c (inv (.inl 0)) ∗ free c (inv (.inl 1)) ∗ free c (inv (.inl 2))) := by
  show _ ⊢ iprop((∃ f, zPts c 0 fullShare f) ∗ (∃ f, zPts c 3 fullShare f) ∗ (∃ f, zPts c 2 fullShare f) ∗ (∃ f, zPts c 1 fullShare f))
  iintro ⟨%f, H⟩
  ihave H := (Entails.of_eq (z_slots c fullShare f)) $$ H
  icases H with ⟨H0, H1, H2, H3⟩
  isplitl [H0]; · iexists f; iexact H0
  isplitl [H3]; · iexists f; iexact H3
  isplitl [H2]; · iexists f; iexact H2
  iexists f; iexact H1
/-- The second gathering opened: the own slot, and the seven that partners will write. -/
theorem p_open : iprop(∃ f, pAll (F := F) c fullShare f)
    ⊢ iprop((∃ f, pPts c 0 fullShare f) ∗ free c (inv (.inr 0)) ∗ free c (inv (.inr 1)) ∗ free c (inv (.inr 2)) ∗ free c (inv (.inr 3)) ∗ free c (inv (.inr 4)) ∗ free c (inv (.inr 5)) ∗ free c (inv (.inr 6))) := by
  show _ ⊢ iprop((∃ f, pPts c 0 fullShare f) ∗ (∃ f, pPts c 7 fullShare f) ∗ (∃ f, pPts c 6 fullShare f) ∗ (∃ f, pPts c 5 fullShare f) ∗ (∃ f, pPts c 4 fullShare f) ∗ (∃ f, pPts c 3 fullShare f) ∗ (∃ f, pPts c 2 fullShare f) ∗ (∃ f, pPts c 1 fullShare f))
  iintro ⟨%f, H⟩
  ihave H := (Entails.of_eq (p_slots c fullShare f)) $$ H
  icases H with ⟨H0, H1, H2, H3, H4, H5, H6, H7⟩
  isplitl [H0]; · iexists f; iexact H0
  isplitl [H7]; · iexists f; iexact H7
  isplitl [H6]; · iexists f; iexact H6
  isplitl [H5]; · iexists f; iexact H5
  isplitl [H4]; · iexists f; iexact H4
  isplitl [H3]; · iexists f; iexact H3
  isplitl [H2]; · iexists f; iexact H2
  iexists f; iexact H1
/-- A signal of readiness has what it takes. -/
theorem asking (e : D) : iprop(dutyTok ER (barCell (peer e c)) 0 e ∗ free (F := F) c (inv e)) ⊢ ask c e := Entails.of_eq rfl
/-- A wait has what it takes. -/
theorem awaiting (i : Fin 26) (u : Use) :
    iprop(cred (tallyAt (dmaCell c i) () (worth u)) ∗ (atPos ER (dmaCell c i) 0 ∅ 0 : sProp 𝕄)) ⊢ await c i u := Entails.of_eq rfl

/-- The counter of a semaphore that nothing uses. -/
theorem idle_done (i : Fin 26) (h : use i = .idle) :
    iprop(records x Kb K ∗ atPos ER (dmaCell c i) 0 ∅ 0) ⊢ (|={Set.univ}=> semVal (dmaCell c i) 0 : sProp 𝕄) := by
  iintro ⟨#HR, Hat⟩
  ihave #HI := (records_dma x Kb K c i) $$ HR
  iapply (Rounds.cell_close ER (Rd x) (Set.mem_univ (K (c, i))) (fun h => h) (R := 0) (fun r _ => duties_idle x c h r))
  isplitr; · iexact HI
  iexact Hat

/-- The tokens, positions and credits of one device. -/
def kit : sProp 𝕄 :=
  iprop((bigSep Finset.univ fun e : D => dutyTok ER (barCell (peer e c)) 0 e)
    ∗ (bigSep Finset.univ fun e : D => pair c e)
    ∗ dutyTok ER (dmaCell c 24) 0 (.inl 0) ∗ dutyTok ER (dmaCell c 25) 0 (.inl 0)
    ∗ atPos ER (barCell c) 0 ∅ 0 ∗ (bigSep Finset.univ fun i : Fin 26 => atPos ER (dmaCell c i) 0 ∅ 0)
    ∗ cred (tallyAt (barCell c) () 24) ∗ cred (tallyAt (barCell c) () 7)
    ∗ (bigSep Finset.univ fun e : D => cred (tallyAt (dmaCell c (recvIx e)) () (worth (.recv e)))))
/-- The local memory of one device, at any contents. -/
def local_ : sProp 𝕄 :=
  iprop((∃ f, zAll c fullShare f) ∗ (∃ f, pAll c fullShare f) ∗ (∃ f, xPts c f) ∗ (∃ f, rPts c f))

set_option maxRecDepth 8000 in
set_option maxHeartbeats 4000000 in
/-- The body of the kernel: it ends with the result written, the block unchanged, the local memory whole,
    nothing owed and every counter at zero. -/
theorem body_run {Q : PUnit → sProp 𝕄} :
    iprop(records x Kb K ∗ owing c payments ∗ inPts c fullShare (x c) ∗ (∃ f, outPts c f) ∗ local_ c ∗ kit c)
      ⊢ iprop(((owing c [] ∗ inPts c fullShare (x c) ∗ outPts c (out x c) ∗ local_ c ∗ semVal (barCell c) 0
              ∗ bigSep Finset.univ fun i : Fin 26 => semVal (dmaCell c i) 0) -∗ Q ⟨⟩)
          -∗ wp frame (wpE (defs₀ (F := F)) 𝒱₀ (c : Thread nD τ) none) Set.univ
              (cc0_body inM (Memref.isWhole_whole _) outM (Memref.isWhole_whole _) gzM (Memref.isWhole_whole _) gpM (Memref.isWhole_whole _)
                xvM (Memref.isWhole_whole _) reM (Memref.isWhole_whole _) cc0_scratch4 cc0_scratch5 cc0_scratch6 cc0_scratch7 cc0_scratch8 cc0_scratch9) Q) := by
  rw [cc0_body_eq_skeleton]; unfold cc0_body_skel
  unfold kit local_
  rw [ten, ten, ten, by_use, by_use]
  iintro ⟨#HR, HO, Hin, Hout, ⟨Hz, Hp, Hx, Hr⟩, ⟨Htz0, Htz1, Htz2, Htp0, Htp1, Htp2, Htp3, Htp4, Htp5, Htp6⟩, ⟨Hqz0, Hqz1, Hqz2, Hqp0, Hqp1, Hqp2, Hqp3, Hqp4, Hqp5, Hqp6⟩, Htb, Htr, Hatbar, ⟨Hai0, Hai4, Hai8, Hai16, Hab, Har, Hasz0, Hasz1, Hasz2, Hasp0, Hasp1, Hasp2, Hasp3, Hasp4, Hasp5, Hasp6, Havz0, Havz1, Havz2, Havp0, Havp1, Havp2, Havp3, Havp4, Havp5, Havp6⟩, Hc24, Hc7, ⟨Hcz0, Hcz1, Hcz2, Hcp0, Hcp1, Hcp2, Hcp3, Hcp4, Hcp5, Hcp6⟩⟩ Hk
  ihave Hz := (z_open c) $$ Hz
  icases Hz with ⟨Hz, Hfz0, Hfz1, Hfz2⟩
  ihave Hp := (p_open c) $$ Hp
  icases Hp with ⟨Hp, Hfp0, Hfp1, Hfp2, Hfp3, Hfp4, Hfp5, Hfp6⟩
  ihave Htz0 := (asking c (.inl 0)) $$ [$Htz0 $Hfz0]
  ihave Havz0 := (awaiting c (recvIx (.inl 0)) (.recv (.inl 0))) $$ [$Hcz0 $Havz0]
  ihave Htz1 := (asking c (.inl 1)) $$ [$Htz1 $Hfz1]
  ihave Havz1 := (awaiting c (recvIx (.inl 1)) (.recv (.inl 1))) $$ [$Hcz1 $Havz1]
  ihave Htz2 := (asking c (.inl 2)) $$ [$Htz2 $Hfz2]
  ihave Havz2 := (awaiting c (recvIx (.inl 2)) (.recv (.inl 2))) $$ [$Hcz2 $Havz2]
  ihave Htp0 := (asking c (.inr 0)) $$ [$Htp0 $Hfp0]
  ihave Havp0 := (awaiting c (recvIx (.inr 0)) (.recv (.inr 0))) $$ [$Hcp0 $Havp0]
  ihave Htp1 := (asking c (.inr 1)) $$ [$Htp1 $Hfp1]
  ihave Havp1 := (awaiting c (recvIx (.inr 1)) (.recv (.inr 1))) $$ [$Hcp1 $Havp1]
  ihave Htp2 := (asking c (.inr 2)) $$ [$Htp2 $Hfp2]
  ihave Havp2 := (awaiting c (recvIx (.inr 2)) (.recv (.inr 2))) $$ [$Hcp2 $Havp2]
  ihave Htp3 := (asking c (.inr 3)) $$ [$Htp3 $Hfp3]
  ihave Havp3 := (awaiting c (recvIx (.inr 3)) (.recv (.inr 3))) $$ [$Hcp3 $Havp3]
  ihave Htp4 := (asking c (.inr 4)) $$ [$Htp4 $Hfp4]
  ihave Havp4 := (awaiting c (recvIx (.inr 4)) (.recv (.inr 4))) $$ [$Hcp4 $Havp4]
  ihave Htp5 := (asking c (.inr 5)) $$ [$Htp5 $Hfp5]
  ihave Havp5 := (awaiting c (recvIx (.inr 5)) (.recv (.inr 5))) $$ [$Hcp5 $Havp5]
  ihave Htp6 := (asking c (.inr 6)) $$ [$Htp6 $Hfp6]
  ihave Havp6 := (awaiting c (recvIx (.inr 6)) (.recv (.inr 6))) $$ [$Hcp6 $Havp6]
  iapply (part1 x Kb K c) $$ [$HR $HO $Hin $Hx $Htb $Htz0 $Htz1 $Htz2 $Htp0]
  iintro %v3 %v4 %v7 %v11 %v15 %v20 %v25 %v26 ⟨HO, Hcb⟩
  dsimp only
  iapply (part2 x Kb K c) $$ [$HR $HO $Htp1 $Htp2 $Htp3 $Htp4 $Htp5 $Htp6 $Hcb $Hab]
  iintro %v30 %v35 %v40 %v45 %v50 ⟨HO, ⟨Hx, Hin⟩, Hmb⟩
  dsimp only
  iapply (part3 x Kb K c) $$ [$HR $HO $Hx $Hz $Hc24 $Hatbar $Hqz0]
  iintro ⟨HO, Hx, Hh, Hfz1, Hfz2, Hz, Hlz1, Hlz2, Hsz0⟩
  iapply (part4 x Kb K c) $$ [$HR $HO $Hlz1 $Hfz1 $Hqz1 $Hlz2 $Hfz2 $Hqz2 $Havz0]
  iintro ⟨HO, Hsz1, Hsz2, Hg0, Hmvz0⟩
  iapply (part5 x Kb K c) $$ [$HR $HO $Havz1 $Havz2 $Hc7 $Hh $Hz $Hg0 $Hqp0]
  iintro %v134 ⟨HO, Hsp0, Hmvz1, Hmvz2, Hmbar, Hz, Hs1, Hs2, Hs3, Hfp1, Hfp2, Hfp3, Hfp4, Hfp5, Hfp6, Hlp1, Hlp2, Hlp3, Hlp4, Hlp5, Hlp6⟩
  iapply (part6 x Kb K c) $$ [$HR $HO $Hlp1 $Hfp1 $Hqp1 $Hlp2 $Hfp2 $Hqp2 $Hlp3 $Hfp3 $Hqp3]
  iintro ⟨HO, Hsp1, Hsp2, Hsp3⟩
  iapply (part7 x Kb K c) $$ [$HR $HO $Hlp4 $Hfp4 $Hqp4 $Hlp5 $Hfp5 $Hqp5 $Hlp6 $Hfp6 $Hqp6 $Hz $Hp]
  iintro ⟨HO, Hsp4, Hsp5, Hsp6, Hz, Hp⟩
  ihave Hasz0 := (awaiting c (sendIx (.inl 0)) (.send (.inl 0))) $$ [$Hsz0 $Hasz0]
  ihave Hasz1 := (awaiting c (sendIx (.inl 1)) (.send (.inl 1))) $$ [$Hsz1 $Hasz1]
  ihave Hasz2 := (awaiting c (sendIx (.inl 2)) (.send (.inl 2))) $$ [$Hsz2 $Hasz2]
  ihave Hasp0 := (awaiting c (sendIx (.inr 0)) (.send (.inr 0))) $$ [$Hsp0 $Hasp0]
  ihave Hasp1 := (awaiting c (sendIx (.inr 1)) (.send (.inr 1))) $$ [$Hsp1 $Hasp1]
  ihave Hasp2 := (awaiting c (sendIx (.inr 2)) (.send (.inr 2))) $$ [$Hsp2 $Hasp2]
  ihave Hasp3 := (awaiting c (sendIx (.inr 3)) (.send (.inr 3))) $$ [$Hsp3 $Hasp3]
  ihave Hasp4 := (awaiting c (sendIx (.inr 4)) (.send (.inr 4))) $$ [$Hsp4 $Hasp4]
  ihave Hasp5 := (awaiting c (sendIx (.inr 5)) (.send (.inr 5))) $$ [$Hsp5 $Hasp5]
  ihave Hasp6 := (awaiting c (sendIx (.inr 6)) (.send (.inr 6))) $$ [$Hsp6 $Hasp6]
  iapply (part8 x Kb K c) $$ [$HR $HO $Havp0 $Havp1 $Havp2 $Havp3]
  iintro ⟨HO, Hg0, Hg1, Hg2, Hg3, Hmvp0, Hmvp1, Hmvp2, Hmvp3⟩
  iapply (part9 x Kb K c) $$ [$HR $HO $Havp4 $Havp5 $Havp6 $Hp $Hg0 $Hg1 $Hg2 $Hg3]
  iintro ⟨HO, Hp, Hmvp4, Hmvp5, Hmvp6⟩
  dsimp only
  iapply (part10 x Kb K c) $$ [$HR $HO $Hr $Hout $Htr $Har $Hasz0 $Hasz1 $Hasz2]
  iintro ⟨HO, ⟨Hout, Hr⟩, Hmr, Hlz0, Hlz1, Hlz2, Hmsz0, Hmsz1, Hmsz2⟩
  iapply (part11 x Kb K c) $$ [$HR $HO $Hasp0 $Hasp1 $Hasp2 $Hasp3 $Hasp4]
  iintro ⟨HO, Hlp0, Hlp1, Hlp2, Hlp3, Hlp4, Hmsp0, Hmsp1, Hmsp2, Hmsp3, Hmsp4⟩
  simp only [Prog.lift, Prog.bind_op, Prog.bind_ret, Prog.pure_eq_ret, bind_assoc, await]
  icases Hasp5 with ⟨Hc5, Hat5⟩
  iapply (step_sent x Kb K c (.inr 5) (by rfl) (by rfl)) $$ [$HR $HO $Hc5 $Hat5]
  iintro ⟨HO, Hlp5, Hmsp5⟩
  icases Hasp6 with ⟨Hc6, Hat6⟩
  iapply (step_sent x Kb K c (.inr 6) (by rfl) (by rfl)) $$ [$HR $HO $Hc6 $Hat6]
  iintro ⟨HO, Hlp6, Hmsp6⟩
  ihave Hz := (all_join x c) $$ [$Hz $Hlp0 $Hlp1 $Hlp2 $Hlp3 $Hlp4 $Hlp5 $Hlp6]
  ihave Hz := (ungathered x c) $$ [$Hz $Hs1 $Hs2 $Hs3 $Hlz0 $Hlz1 $Hlz2]
  rw [wp_ret]
  imod (idle_done x Kb K c 0 (by decide)) $$ [$HR $Hai0] with Hmi0
  imod (idle_done x Kb K c 4 (by decide)) $$ [$HR $Hai4] with Hmi4
  imod (idle_done x Kb K c 8 (by decide)) $$ [$HR $Hai8] with Hmi8
  imod (idle_done x Kb K c 16 (by decide)) $$ [$HR $Hai16] with Hmi16
  imodintro
  iapply Hk
  iframe HO Hin Hout Hmbar
  isplitl [Hz Hp Hx Hr]
  · isplitl [Hz]; · iexists (GZ x c); iexact Hz
    isplitl [Hp]; · iexists (GP x c); iexact Hp
    isplitl [Hx]; · iexists (x c); iexact Hx
    iexists (out x c); iexact Hr
  iframe Hmi0 Hmi4 Hmi8 Hmi16 Hmb Hmr Hmsz0 Hmsz1 Hmsz2 Hmsp0 Hmsp1 Hmsp2 Hmsp3 Hmsp4 Hmsp5 Hmsp6 Hmvz0 Hmvz1 Hmvz2 Hmvp0 Hmvp1 Hmvp2 Hmvp3 Hmvp4 Hmvp5 Hmvp6

end Whole

end Peer
-- ==== Proof.Launch.lean ====
/- The launch: the ghost state of the protocol is dealt out, every device runs its body, and the memory
   is read at the end. -/
module

public import proofs.«01_k».proof.Proof.Body
public import proofs.«01_k».proof.Proof.Gen.KernelIdeal.Points
public import Idealize.ShloMosaic.Lib.Pipeline.CollectiveSegs

@[expose] public section

noncomputable section

namespace Peer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### The cells and tokens of the protocol -/

/-- The barrier semaphore. -/
abbrev regS : SemLoc sig := .reg barS
/-- The DMA semaphore of number `i`. -/
abbrev dmaS (i : Fin 26) : SemLoc sig := .dma i
/-- DMA semaphores of different numbers are different. -/
theorem dmaS_injective {i j : Fin 26} (h : dmaS i = dmaS j) : i = j := by injection h

/-- The cells: per device the readiness semaphore (`none`) and the transfer semaphores. -/
abbrev cellAt (p : Dev nD × Option (Fin 26)) : GSem nD τ sig := ((p.1 : Thread nD τ), p.2.elim regS dmaS)

/-- No two names name the same cell. -/
theorem cellAt_injective : Function.Injective cellAt := by
  rintro ⟨c, i⟩ ⟨c', i'⟩ h
  have h1 : c = c' := by have := congrArg (fun g : GSem nD τ sig => g.1.1) h; exact this
  have h2 : i.elim regS dmaS = i'.elim regS dmaS := congrArg Prod.snd h
  subst h1
  rcases i with _ | i <;> rcases i' with _ | i'
  · rfl
  · cases h2
  · cases h2
  · have : i = i' := dmaS_injective h2
    rw [this]
/-- All cells of all devices. -/
def cells : Finset (GSem nD τ sig) := Finset.univ.map ⟨cellAt, cellAt_injective⟩

/-- The duties: per device one signal per exchange, and one transfer per transfer semaphore. -/
abbrev tokAt (p : Dev nD × (D ⊕ Fin 26)) : GSem nD τ sig × ℕ × D :=
  (((p.1 : Thread nD τ), p.2.elim (fun _ => regS) dmaS), 0, p.2.elim id fun _ => .inl 0)

/-- No two names name the same duty. -/
theorem tokAt_injective : Function.Injective tokAt := by
  rintro ⟨c, i⟩ ⟨c', i'⟩ h
  have h1 : c = c' := by have := congrArg (fun g : GSem nD τ sig × ℕ × D => g.1.1.1) h; exact this
  have h2 : i.elim (fun _ => regS) dmaS = i'.elim (fun _ => regS) dmaS :=
    congrArg (fun g : GSem nD τ sig × ℕ × D => g.1.2) h
  have h3 : i.elim id (fun _ => Sum.inl 0) = i'.elim id (fun _ => Sum.inl 0) := congrArg (fun g : GSem nD τ sig × ℕ × D => g.2.2) h
  subst h1
  rcases i with e | i <;> rcases i' with e' | i'
  · have : e = e' := h3
    rw [this]
  · cases h2
  · cases h2
  · have : i = i' := dmaS_injective h2
    rw [this]
/-- All duties of all cells. -/
def toks : Finset (GSem nD τ sig × ℕ × D) := Finset.univ.map ⟨tokAt, tokAt_injective⟩

/-- The ghost state at the start. -/
def u₀ : UU :=
  (initOf (Pipeline.cells cfgs cellOf_inj) (Pipeline.launchToks cfgs cellOf_inj), initOf cells toks)

/-- The kernel's own semaphores: the transfer semaphores. -/
abbrev osem (i : Fin 26) : SemLoc sig := .dma i
/-- The kernel's own semaphores are those its specification lists. -/
theorem ownSemFacts : Pipeline.OwnSemFacts cfg0.spec osem := by decide

/-- A product over an optional index is the product of its two cases. -/
theorem maybe (Φ : Option (Fin 26) → sProp 𝕄) :
    bigSep Finset.univ Φ = iprop(Φ none ∗ bigSep Finset.univ fun i => Φ (some i)) := by
  rw [show (Finset.univ : Finset (Option (Fin 26))) = insert none (Finset.univ.map Function.Embedding.some) from by
    ext o; cases o <;> simp, bigSep_insert (by simp), bigSep_map]
  rfl
/-- A product over two kinds of index is the product over each. -/
theorem either (Φ : D ⊕ Fin 26 → sProp 𝕄) :
    bigSep Finset.univ Φ = iprop((bigSep Finset.univ fun e => Φ (.inl e)) ∗ bigSep Finset.univ fun i => Φ (.inr i)) := by
  rw [show (Finset.univ : Finset (D ⊕ Fin 26)) = Finset.univ.map ⟨Sum.inl, Sum.inl_injective⟩ ∪ Finset.univ.map ⟨Sum.inr, Sum.inr_injective⟩ from by
    ext o; cases o <;> simp, bigSep_union (by
      rw [Finset.disjoint_left]; intro o h1 h2
      obtain ⟨a, -, rfl⟩ := Finset.mem_map.mp h1
      obtain ⟨b, -, hb⟩ := Finset.mem_map.mp h2
      cases hb), bigSep_map, bigSep_map]
  rfl
/-- A product over all cells, device by device. -/
theorem over_cells (Φ : GSem nD τ sig → sProp 𝕄) : bigSep cells Φ
    = bigSep Finset.univ fun c : Dev nD => iprop(Φ (barCell c) ∗ bigSep Finset.univ fun i : Fin 26 => Φ (dmaCell c i)) := by
  unfold cells; rw [bigSep_map, bigSep_univ_prod]
  exact bigSep_congr fun c _ => maybe (fun o => Φ (cellAt (c, o)))
/-- A product over all duties, device by device. -/
theorem over_toks : bigSep toks (fun t => (dutyTok ER t.1 t.2.1 t.2.2 : sProp 𝕄))
    = bigSep Finset.univ fun c : Dev nD => iprop((bigSep Finset.univ fun e : D => dutyTok ER (barCell c) 0 e)
        ∗ bigSep Finset.univ fun i : Fin 26 => dutyTok ER (dmaCell c i) 0 (.inl 0)) := by
  unfold toks; rw [bigSep_map, bigSep_univ_prod]
  exact bigSep_congr fun c _ => either fun o => dutyTok ER (tokAt (c, o)).1 (tokAt (c, o)).2.1 (tokAt (c, o)).2.2

/-- Several things per device, gathered kind by kind. -/
theorem gather4 (A B C E : Dev nD → sProp 𝕄) : (bigSep Finset.univ fun c => iprop(A c ∗ B c ∗ C c ∗ E c))
    = iprop(bigSep Finset.univ A ∗ bigSep Finset.univ B ∗ bigSep Finset.univ C ∗ bigSep Finset.univ E) := by
  rw [bigSep_sep', bigSep_sep', bigSep_sep']
/-- Five products over the devices are one product of the five. -/
theorem gather5 (A B C E G : Dev nD → sProp 𝕄) : (bigSep Finset.univ fun c => iprop(A c ∗ B c ∗ C c ∗ E c ∗ G c))
    = iprop(bigSep Finset.univ A ∗ bigSep Finset.univ B ∗ bigSep Finset.univ C ∗ bigSep Finset.univ E ∗ bigSep Finset.univ G) := by
  rw [bigSep_sep', gather4]

section Deal
variable (x : Blocks F)

/-- What the launch deals a device first: the state of its cells, its positions, and the tokens of its own duties. -/
def dealt (c : Dev nD) : sProp 𝕄 :=
  iprop((initState ER (barCell c) ∗ bigSep Finset.univ fun i : Fin 26 => initState ER (dmaCell c i))
    ∗ (reached ER (barCell c) 0 ∗ bigSep Finset.univ fun i : Fin 26 => reached ER (dmaCell c i) 0)
    ∗ (atPos ER (barCell c) 0 ∅ 0 ∗ bigSep Finset.univ fun i : Fin 26 => atPos ER (dmaCell c i) 0 ∅ 0)
    ∗ (bigSep Finset.univ fun e : D => dutyTok ER (barCell c) 0 e)
    ∗ bigSep Finset.univ fun i : Fin 26 => dutyTok ER (dmaCell c i) 0 (.inl 0))

/-- The ghost state at the start, dealt out to the devices. -/
theorem deal : BI.own (ER (initOf cells toks)) ⊢ (|==> bigSep Finset.univ fun c => dealt (F := F) c : sProp 𝕄) := by
  iintro HX
  imod (Rounds.fund_init ER cells toks) $$ HX with ⟨Hst, Hr, Hat, Htok⟩
  imodintro
  ihave Hst := (Entails.of_eq (over_cells fun g => initState ER g)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold dealt
  iapply (Entails.of_eq (gather4 _ _ _ _).symm)
  isplitl [Hst]; · iexact Hst
  isplitl [Hr]; · iexact Hr
  isplitl [Hat]; · iexact Hat
  iexact Htok

/-- A device's part of the protocol without its credits. -/
def part (c : Dev nD) : sProp 𝕄 :=
  iprop((bigSep Finset.univ fun e : D => dutyTok ER (barCell (peer e c)) 0 e)
    ∗ (bigSep Finset.univ fun e : D => pair c e)
    ∗ dutyTok ER (dmaCell c 24) 0 (.inl 0) ∗ dutyTok ER (dmaCell c 25) 0 (.inl 0)
    ∗ atPos ER (barCell c) 0 ∅ 0 ∗ (bigSep Finset.univ fun i : Fin 26 => atPos ER (dmaCell c i) 0 ∅ 0))

/-- What everybody knows, without the levels. -/
def known (Kb : Dev nD → ℕ) (K : Dev nD × Fin 26 → ℕ) : sProp 𝕄 :=
  iprop((bigSep Finset.univ fun c : Dev nD => barInv ER (Rd x) (Kb c) (barCell c))
    ∗ (bigSep Finset.univ fun ci : Dev nD × Fin 26 => cellInv ER (Rd x) (K ci) (dmaCell ci.1 ci.2))
    ∗ (bigSep Finset.univ fun ci : Dev nD × Fin 26 => reached ER (dmaCell ci.1 ci.2) 0))
/-- What every device knows can be copied. -/
instance known_persistent (Kb : Dev nD → ℕ) (K : Dev nD × Fin 26 → ℕ) : BI.Persistent (known x Kb K) := by
  unfold known; infer_instance

/-- What a device has once the invariants are in place. -/
def ready (c : Dev nD) : sProp 𝕄 := iprop(∃ Kb K, known x Kb K ∗ part (F := F) c)

/-- The kernel's own semaphores at zero, listed. -/
theorem ownSems0_eq (c : Dev nD) : (Pipeline.ownSems0 (Ix := Unit) (Name := ℕ) (U := UU) (Lvl := ℕ) (Val := Elt F) (τ := τ) osem c : sProp 𝕄)
    = bigSep Finset.univ fun i : Fin 26 => semVal (dmaCell c i) 0 := rfl
/-- The only semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The invariants of one device's cells. -/
theorem place (c : Dev nD) :
    iprop(Pipeline.ownSems0 (Ix := Unit) (Name := ℕ) (U := UU) (Lvl := ℕ) (Val := Elt F) (τ := τ) osem c ∗ unscopedSems0 c ∗ dealt (F := F) c)
      ⊢ |={Set.univ}=> iprop((∃ κ : ℕ, barInv ER (Rd x) κ (barCell c))
          ∗ (bigSep Finset.univ fun i : Fin 26 => iprop(∃ κ : ℕ, cellInv ER (Rd x) κ (dmaCell c i)))
          ∗ (bigSep Finset.univ fun i : Fin 26 => reached ER (dmaCell c i) 0)
          ∗ (atPos ER (barCell c) 0 ∅ 0 ∗ bigSep Finset.univ fun i : Fin 26 => atPos ER (dmaCell c i) 0 ∅ 0)
          ∗ (bigSep Finset.univ fun e : D => dutyTok ER (barCell c) 0 e)
          ∗ bigSep Finset.univ fun i : Fin 26 => dutyTok ER (dmaCell c i) 0 (.inl 0)) := by
  rw [ownSems0_eq, unscopedSems0_eq]
  unfold dealt
  iintro ⟨Hv, Hb, ⟨Hbs, Hs⟩, ⟨-, Hr⟩, Hat, Htb, Ht⟩
  imod ((Peer.barBody_intro ER (Rd x)).trans inv_alloc) $$ [Hb Hbs] with HB
  · isplitl [Hb] <;> iassumption
  imod (show iprop((bigSep Finset.univ fun i : Fin 26 => semVal (dmaCell c i) 0) ∗ bigSep Finset.univ fun i : Fin 26 => initState ER (dmaCell c i))
      ⊢ (|={Set.univ}=> bigSep Finset.univ fun i => iprop(∃ κ : ℕ, cellInv ER (Rd x) κ (dmaCell c i)) : sProp 𝕄) from by
        rw [← bigSep_sep']
        exact (bigSep_mono fun i _ => ((sep_mono_right (Rounds.roundState_init ER (Rd x))).trans
          (Rounds.body_intro ER (Rd x) (dmaCell c i))).trans inv_alloc).trans (bigSep_fupd _ _)) $$ [Hv Hs] with HI
  · isplitl [Hv] <;> iassumption
  imodintro
  iframe HB HI Hr Hat Htb Ht

/-- The partner of every device in every exchange, as a rearrangement. -/
def around : Dev nD × D ≃ Dev nD × D where
  toFun p := (peer p.2 p.1, p.2)
  invFun p := (peer (inv p.2) p.1, p.2)
  left_inv p := Prod.ext (peer_inv_peer p.2 p.1) rfl
  right_inv p := Prod.ext (peer_peer_inv p.2 p.1) rfl

/-- One thing per device and exchange, handed to the partner. -/
theorem swap (Φ : Dev nD → D → sProp 𝕄) :
    (bigSep Finset.univ fun c : Dev nD => bigSep Finset.univ fun e : D => Φ c e)
      = bigSep Finset.univ fun c : Dev nD => bigSep Finset.univ fun e : D => Φ (peer e c) e := by
  rw [← bigSep_univ_prod (fun p : Dev nD × D => Φ p.1 p.2), bigSep_univ_equiv around,
    bigSep_univ_prod (fun p : Dev nD × D => Φ (around p).1 (around p).2)]
  rfl

/-- Of one thing per transfer semaphore, those in use. -/
theorem used (Φ : Fin 26 → sProp 𝕄) : bigSep Finset.univ Φ
    ⊢ iprop(Φ 24 ∗ Φ 25 ∗ (bigSep Finset.univ fun e => Φ (sendIx e)) ∗ (bigSep Finset.univ fun e => Φ (recvIx e))) := by
  rw [by_use, ten, ten]
  iintro ⟨-, -, -, -, H1, H2, a0, a1, a2, a3, a4, a5, a6, a7, a8, a9, b0, b1, b2, b3, b4, b5, b6, b7, b8, b9⟩
  iframe H1 H2 a0 a1 a2 a3 a4 a5 a6 a7 a8 a9 b0 b1 b2 b3 b4 b5 b6 b7 b8 b9

/-- The tokens, from the devices whose duties they are to the devices that pay. -/
theorem spread :
    (bigSep Finset.univ fun c : Dev nD => iprop((bigSep Finset.univ fun e : D => dutyTok ER (barCell c) 0 e)
        ∗ bigSep Finset.univ fun i : Fin 26 => dutyTok ER (dmaCell c i) 0 (.inl 0)) : sProp 𝕄)
      ⊢ bigSep Finset.univ fun c : Dev nD => iprop((bigSep Finset.univ fun e : D => dutyTok ER (barCell (peer e c)) 0 e)
        ∗ (bigSep Finset.univ fun e : D => pair c e) ∗ dutyTok ER (dmaCell c 24) 0 (.inl 0) ∗ dutyTok ER (dmaCell c 25) 0 (.inl 0)) := by
  rw [bigSep_sep']
  iintro ⟨Hb, Hd⟩
  ihave Hb := (Entails.of_eq (swap fun c e => dutyTok ER (barCell c) 0 e)) $$ Hb
  ihave Hd := (show (bigSep Finset.univ fun c : Dev nD => bigSep Finset.univ fun i : Fin 26 => dutyTok ER (dmaCell c i) 0 (.inl 0) : sProp 𝕄) ⊢ iprop(
    (bigSep Finset.univ fun c : Dev nD => dutyTok ER (dmaCell c 24) 0 (.inl 0)) ∗ (bigSep Finset.univ fun c : Dev nD => dutyTok ER (dmaCell c 25) 0 (.inl 0))
    ∗ (bigSep Finset.univ fun c : Dev nD => bigSep Finset.univ fun e : D => dutyTok ER (dmaCell c (sendIx e)) 0 (.inl 0))
    ∗ (bigSep Finset.univ fun c : Dev nD => bigSep Finset.univ fun e : D => dutyTok ER (dmaCell c (recvIx e)) 0 (.inl 0))) from
    (bigSep_mono fun c _ => used fun i => dutyTok ER (dmaCell c i) 0 (.inl 0)).trans (Entails.of_eq (gather4 _ _ _ _))) $$ Hd
  icases Hd with ⟨H24, H25, Hs, Hv⟩
  ihave Hv := (Entails.of_eq (swap fun c e => dutyTok ER (dmaCell c (recvIx e)) 0 (.inl 0))) $$ Hv
  iapply (Entails.of_eq (gather4 _ _ _ _).symm)
  isplitl [Hb]; · iexact Hb
  isplitl [Hs Hv]
  · simp only [pair, bigSep_sep']
    isplitl [Hs]; · iexact Hs
    iexact Hv
  isplitl [H24]; · iexact H24
  iexact H25

/-- Shared knowledge may be used in every factor of a product. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device knows all invariants and holds its part. -/
theorem regroup : (bigSep Finset.univ fun c : Dev nD => iprop((∃ κ : ℕ, barInv ER (Rd x) κ (barCell c))
          ∗ (bigSep Finset.univ fun i : Fin 26 => iprop(∃ κ : ℕ, cellInv ER (Rd x) κ (dmaCell c i)))
          ∗ (bigSep Finset.univ fun i : Fin 26 => reached ER (dmaCell c i) 0)
          ∗ (atPos ER (barCell c) 0 ∅ 0 ∗ bigSep Finset.univ fun i : Fin 26 => atPos ER (dmaCell c i) 0 ∅ 0)
          ∗ (bigSep Finset.univ fun e : D => dutyTok ER (barCell c) 0 e)
          ∗ bigSep Finset.univ fun i : Fin 26 => dutyTok ER (dmaCell c i) 0 (.inl 0)) : sProp 𝕄)
    ⊢ bigSep Finset.univ (ready x) := by
  rw [gather5,
    ← bigSep_univ_prod (fun ci : Dev nD × Fin 26 => iprop(∃ κ : ℕ, cellInv ER (Rd x) κ (dmaCell ci.1 ci.2))),
    ← bigSep_univ_prod (fun ci : Dev nD × Fin 26 => (reached ER (dmaCell ci.1 ci.2) 0 : sProp 𝕄))]
  iintro ⟨HB, HI, #HR, Hat, Htok⟩
  ihave HB := (BI.bigSep_exists_pi Finset.univ (fun (c : Dev nD) (κ : ℕ) => (barInv ER (Rd x) κ (barCell c) : sProp 𝕄))) $$ HB
  icases HB with ⟨%Kb, #HB⟩
  ihave HI := (BI.bigSep_exists_pi Finset.univ (fun (ci : Dev nD × Fin 26) (κ : ℕ) => (cellInv ER (Rd x) κ (dmaCell ci.1 ci.2) : sProp 𝕄))) $$ HI
  icases HI with ⟨%K, #HI⟩
  ihave Htok := (spread (F := F)) $$ Htok
  iapply (with_known (R := known x Kb K) (Φ := fun c => iprop((atPos ER (barCell c) 0 ∅ 0 ∗ bigSep Finset.univ fun i : Fin 26 => atPos ER (dmaCell c i) 0 ∅ 0)
      ∗ (bigSep Finset.univ fun e : D => dutyTok ER (barCell (peer e c)) 0 e)
        ∗ (bigSep Finset.univ fun e : D => pair c e) ∗ dutyTok ER (dmaCell c 24) 0 (.inl 0) ∗ dutyTok ER (dmaCell c 25) 0 (.inl 0))) fun c _ => by
    unfold ready part
    iintro ⟨HK, ⟨Hb, Hd⟩, Ht, Hp, H4, H5⟩
    iexists Kb, K
    iframe HK Hb Hd Ht Hp H4 H5)
  isplitr
  · unfold known
    isplitl; · iexact HB
    isplitl; · iexact HI
    iexact HR
  iapply (Entails.of_eq (bigSep_sep' _ _ _).symm)
  isplitl [Hat]; · iexact Hat
  iexact Htok
/-- Everything in place: every device knows all invariants and holds its part. -/
theorem glob : (bigSep Finset.univ fun c => iprop(Pipeline.ownSems0 (Ix := Unit) (Name := ℕ) (U := UU) (Lvl := ℕ) (Val := Elt F) (τ := τ) osem c
      ∗ unscopedSems0 c ∗ dealt (F := F) c) : sProp 𝕄)
    ⊢ |={Set.univ}=> bigSep Finset.univ (ready x) :=
  ((bigSep_mono fun c _ => place x c).trans (bigSep_fupd _ _)).trans (BI.fupd_mono (regroup x))
end Deal

/-! ### The credits -/

/-- The cell of device `c` that a payment of some partner's goes to. -/
def gotCell (c : Dev nD) : Payment → GSem nD τ sig
  | (true, _) => barCell c
  | (false, e) => dmaCell c (recvIx e)

/-- The credits a device has for the payments of a list that partners make to it. -/
def got (c : Dev nD) : List Payment → sProp 𝕄
  | [] => iprop(emp)
  | o :: l => iprop(got c l ∗ cred (tallyAt (gotCell c o) () (payUnits o)))

/-- The credit for one signal to the barrier. -/
theorem launch_bar (c : Dev nD) (e : D) (l : List Payment) :
    (Pipeline.launchCred (fun d => owed d ((true, e) :: l)) c : sProp 𝕄)
      ⊢ iprop(Pipeline.launchCred (fun d => owed d l) c ∗ cred (tallyAt (barCell c) () (units e))) := by
  rw [show (fun d : Dev nD => owed d ((true, e) :: l))
    = fun d => owed d l + (fun d : Dev nD => (tallyAt (((peer e d).tc : Thread nD τ), regS) () (units e) : CellTallies nD τ sig Unit)) d from rfl,
    Pipeline.launchCred_add]
  exact sep_mono_right (Pipeline.launchCred_tallyAt regS (peer e) (peer (inv e)) (peer_peer_inv e) (peer_inv_peer e) () (units e) c)
/-- The credit for one landing. -/
theorem launch_recv (c : Dev nD) (e : D) (l : List Payment) :
    (Pipeline.launchCred (fun d => owed d ((false, e) :: l)) c : sProp 𝕄)
      ⊢ iprop(Pipeline.launchCred (fun d => owed d l) c ∗ cred (tallyAt (dmaCell c (recvIx e)) () (size e))) := by
  rw [show (fun d : Dev nD => owed d ((false, e) :: l))
    = fun d => owed d l + (fun d : Dev nD => (tallyAt (((peer e d).tc : Thread nD τ), dmaS (recvIx e)) () (size e) : CellTallies nD τ sig Unit)) d from rfl,
    Pipeline.launchCred_add]
  exact sep_mono_right (Pipeline.launchCred_tallyAt (dmaS (recvIx e)) (peer e) (peer (inv e)) (peer_peer_inv e) (peer_inv_peer e) () (size e) c)
/-- All credits that a device starts with. -/
theorem launch_got (c : Dev nD) (l : List Payment) : (Pipeline.launchCred (fun d => owed d l) c : sProp 𝕄) ⊢ got c l := by
  induction l with
  | nil =>
    rw [show (fun d : Dev nD => owed d []) = fun _ => 0 from rfl, Pipeline.launchCred_zero]
    exact Entails.of_eq rfl
  | cons o l ih =>
    obtain ⟨b, e⟩ := o
    cases b
    · exact (launch_recv c e l).trans (sep_mono_left ih)
    · exact (launch_bar c e l).trans (sep_mono_left ih)

/-- Two credits on a cell are one of the sum. -/
theorem cred_join (g : GSem nD τ sig) (a b : ℕ) :
    iprop(cred (tallyAt g () a) ∗ cred (tallyAt g () b)) ⊢ (cred (tallyAt g () (a + b)) : sProp 𝕄) := by
  rw [show (tallyAt g () (a + b) : CellTallies nD τ sig Unit) = tallyAt g () a + tallyAt g () b from (tallyAt_add g () a b).symm]
  exact (cred_add _ _).2

/-- A device's credits at launch. -/
theorem credits (c : Dev nD) : (Pipeline.launchCred O₀ c : sProp 𝕄)
    ⊢ iprop(cred (tallyAt (barCell c) () 24) ∗ cred (tallyAt (barCell c) () 7)
      ∗ (bigSep Finset.univ fun e : D => cred (tallyAt (dmaCell c (recvIx e)) () (worth (.recv e))))) := by
  refine (launch_got c payments).trans ?_
  rw [ten]
  simp only [got, gotCell, payUnits, payments, transfers]
  iintro ⟨⟨⟨⟨⟨⟨⟨⟨⟨⟨⟨⟨⟨⟨⟨⟨⟨⟨⟨⟨-, b9⟩, b8⟩, b7⟩, b6⟩, b5⟩, b4⟩, b3⟩, b2⟩, b1⟩, b0⟩, a9⟩, a8⟩, a7⟩, a6⟩, a5⟩, a4⟩, a3⟩, a2⟩, a1⟩, a0⟩
  ihave a0 := (cred_join (F := F) (barCell c) _ _) $$ [$a0 $a1]
  ihave a0 := (cred_join (F := F) (barCell c) _ _) $$ [$a0 $a2]
  ihave a3 := (cred_join (F := F) (barCell c) _ _) $$ [$a3 $a4]
  ihave a3 := (cred_join (F := F) (barCell c) _ _) $$ [$a3 $a5]
  ihave a3 := (cred_join (F := F) (barCell c) _ _) $$ [$a3 $a6]
  ihave a3 := (cred_join (F := F) (barCell c) _ _) $$ [$a3 $a7]
  ihave a3 := (cred_join (F := F) (barCell c) _ _) $$ [$a3 $a8]
  ihave a3 := (cred_join (F := F) (barCell c) _ _) $$ [$a3 $a9]
  isplitl [a0]; · iexact a0
  isplitl [a3]; · iexact a3
  isplitl [b0]; · iexact b0
  isplitl [b1]; · iexact b1
  isplitl [b2]; · iexact b2
  isplitl [b3]; · iexact b3
  isplitl [b4]; · iexact b4
  isplitl [b5]; · iexact b5
  isplitl [b6]; · iexact b6
  isplitl [b7]; · iexact b7
  isplitl [b8]; · iexact b8
  iexact b9

/-! ### The run -/

section Run
variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-- The blocks the devices hold at launch. -/
def xs : Blocks F := fun c => m ((c : Thread nD τ).loc main_arg0)

/-- What a device's body starts from, its local memory aside. -/
def start (c : Dev nD) : sProp 𝕄 :=
  iprop((∃ Kb K, records (xs m) Kb K) ∗ inPts c fullShare (xs m c) ∗ (∃ f, outPts c f) ∗ kit c)

/-- What a device holds before its body. -/
def Φ₀ (c : Dev nD) : sProp 𝕄 := iprop(start m c ∗ local_ c)
/-- What is left: the block, the result, the local memory and all counters at zero. -/
def Φ₁ (c : Dev nD) : sProp 𝕄 :=
  iprop(inPts c fullShare (xs m c) ∗ outPts c (out (xs m) c) ∗ local_ c ∗ semVal (barCell c) 0
    ∗ bigSep Finset.univ fun i : Fin 26 => semVal (dmaCell c i) 0)
/-- What of that outlives the region. -/
def kept (c : Dev nD) : sProp 𝕄 :=
  iprop(inPts c fullShare (xs m c) ∗ outPts c (out (xs m) c) ∗ unscopedSems0 c)

/-- The launch's data: what a device holds before and after, and what it owes. -/
def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The call has no pipelined windows. -/
theorem no_windows (Φ : Fin cfg0.W → sProp 𝕄) : bigSep Finset.univ Φ = iprop(emp) := bigSep_empty

/-- The body takes what a device holds before to what it holds after. -/
theorem body_obligation (c : Dev nD) : BodyObligation (dats (F := F) m ρ 0 c) (defs₀ (F := F)) 𝒱₀ () Set.univ := fun t => by
  rw [fin_N0 t, no_windows, no_windows]
  show iprop(Φ₀ m c ∗ (dats m ρ 0 c).owesAt () t0_0.castSucc ∗ emp) ⊢ wp frame (wpE (defs₀ (F := F)) 𝒱₀ c none) Set.univ
    (bodyAt0 t0_0) (fun _ => iprop(Φ₁ m c ∗ (dats m ρ 0 c).owesAt () t0_0.succ ∗ emp))
  unfold Φ₀ start Dat.owesAt Pipeline.owesWithin
  iintro ⟨⟨⟨⟨%Kb, %K, HR⟩, Hin, Hout, Hk⟩, Hl⟩, ⟨%W, %hW, HO⟩, -⟩
  iapply (body_run (xs m) Kb K c) $$ [HR HO Hin Hout Hl Hk]
  · isplitl [HR]; · iexact HR
    isplitl [HO]; · unfold Peer.owing; iexists W; iexact HO
    iframe Hin Hout Hl Hk
  iintro ⟨HO, Hin, Hout, Hl, Hb, Hs⟩
  isplitl [Hin Hout Hl Hb Hs]
  · unfold Φ₁; iframe Hin Hout Hl Hb Hs
  isplitl
  · unfold Peer.owing
    icases HO with ⟨%W', HO⟩
    iexists W'
    isplitr; · ipureintro; exact fun _ _ => Or.inl trivial
    iexact HO
  iempintro

/-- There is no window to share. -/
theorem share_eq (c : Dev nD) (w : Fin cfg0.W) : (dats m ρ 0 c).share w = fullShare := w.elim0

/-- A device's part of the launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (xs m) c)
      ⊢ |={Set.univ}=> iprop(start m c ∗ emp) := by
  rw [show (Pipeline.unscopedRestP Pipeline.Prefetch.none cfg0.spec c (fun b => m ((c : Thread nD τ).loc b)) : sProp 𝕄)
    = Pipeline.unscopedRest cfg0.spec c (fun b => m ((c : Thread nD τ).loc b)) from Pipeline.unscopedRestP_none _ _ _, unscopedRest0_eq]
  unfold ready part known start inPts outPts
  iintro ⟨⟨Hin, Hout⟩, Hlev, Hcr, -, ⟨%Kb, %K, ⟨H1, H2, H3⟩, Ht, Hp, H4, H5, Hab, Had⟩⟩
  ihave Hcr := (credits (F := F) c) $$ Hcr
  icases Hcr with ⟨Hc1, Hc2, Hc3⟩
  imodintro
  unfold kit records
  isplitl
  · isplitl [H1 H2 H3 Hlev]
    · iexists Kb, K
      iframe H1 H2 H3 Hlev
    isplitl [Hin]; · iexact Hin
    isplitl [Hout]; · iexists (m ((c : Thread nD τ).loc main_v1)); iexact Hout
    iframe Ht Hp H4 H5 Hab Had Hc1 Hc2 Hc3
  · iempintro

/-- With its local memory, it is the whole of what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ local_
  iintro ⟨Hs, -, ⟨H0, H1, H2, H3⟩⟩
  isplitl [Hs]; · iexact Hs
  isplitl [H0]; · iexact H0
  isplitl [H1]; · iexact H1
  isplitl [H2]; · iexact H2
  iexact H3

/-- After the body the local memory and the semaphores are given back. -/
theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ kept local_
  rw [unscopedSems0_eq]
  iintro ⟨Hin, Hout, ⟨H0, H1, H2, H3⟩, Hb, Hs⟩
  isplitl [Hin Hout Hb]; · iframe Hin Hout Hb
  isplitl [Hs]; · iexact Hs
  isplitl [H0]; · iexact H0
  isplitl [H1]; · iexact H1
  isplitl [H2]; · iexact H2
  iexact H3

/-- The waits of the pipeline are allowed: there are none. -/
theorem waits (c : Dev nD) : (levAts L lv : sProp 𝕄) ⊢ Pipeline.cellsWaits cfgs (dats m ρ) () 0 c :=
  Pipeline.cellsWaits_intro cfgs (dats m ρ) () 0 c fun w s t => w.elim0

/-- What the end of the run says of one device. -/
def atEnd (c : Dev nD) (s : MemSt nD τ sig (Elt F)) : Prop :=
  (s.mem ((c : Thread nD τ).loc main_arg0) = xs m c ∧ s.mem ((c : Thread nD τ).loc main_v1) = out (xs m) c)
    ∧ ∀ sm : SemLoc sig, sm.isScoped .tc = false → s.sem ((c.tc : Thread nD τ), sm) = 0

/-- What a device holds at the end says what memory holds then. -/
theorem read_end (c : Dev nD) (s' : Phys nD τ sig (Elt F)) :
    iprop(kept m c ∗ SI s') ⊢ |={Set.univ}=> iprop(⌜atEnd m c s'.mem⌝ ∗ SI s') := by
  unfold kept inPts outPts
  iintro ⟨⟨Hin, Hout, Hu⟩, HSI⟩
  icombine HSI Hin gives %h1
  icombine HSI Hout gives %h2
  imod (Pipeline.unscopedSems0_read (X := unscopedSems0 c) (c := c) fupd_intro s') $$ [Hu HSI] with ⟨%h3, HSI⟩
  · isplitl [Hu] <;> iassumption
  imodintro
  isplitr
  · ipureintro
    exact ⟨⟨funext fun i => h1 i (Finset.mem_univ i), funext fun i => h2 i (Finset.mem_univ i)⟩, h3⟩
  iexact HSI

set_option maxRecDepth 8000 in
/-- The run, for any float values, from any memory with zero counters: it terminates in every weakly fair
    execution, and at the end every device's block is unchanged, every device's result is `out`, and every
    counter is at zero. -/
theorem run_main : θ_run defs (onTc (τ := τ) (main (F := F))) (s₀ m ρ) (fun r =>
    (∀ c : Dev nD, r.2.mem ((c : Thread nD τ).loc main_arg0) = xs m c ∧ r.2.mem ((c : Thread nD τ).loc main_v1) = out (xs m) c)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := fun c => dealt c) (G' := ready (xs m)) (u₀ := u₀)
    (hu₀ := by
      unfold u₀
      iintro Hu
      ihave H := (ownU_pair _ _) $$ Hu
      icases H with ⟨HP, HX⟩
      imod (deal (F := F)) $$ HX with HG
      imodintro
      isplitl [HP] <;> iassumption)
    (hglob := glob (xs m))
    (hA := fun _ _ => rfl) (hpf := fun _ k => k.elim0)
    (X := start m) (Y := kept m) (Z := fun _ => iprop(emp))
    (hX := start_intro m ρ) (hin := phi0_intro m ρ) (hout := phi1_exit m ρ)
    (QY := fun c s => atEnd m c s)
    (hY := fun c s' => by
      iintro ⟨Hu, -, HSI⟩
      iapply (read_end m c s')
      isplitl [Hu] <;> iassumption)
    (hQ := fun _ h hs => ⟨fun c => (h c).2.2.1, sem_eq_zero hs fun c => (h c).2.2.2⟩)

end Run

end Peer
-- ==== Proof.Maths.lean ====
/-
  The order facts behind an arg-max: the greatest of finitely many extended reals, the least place that attains it, and
  how both are found from 32 pieces of 256.
-/
module

public import Idealize.ShloMosaic.PureOps.Ideal.Laws

@[expose] public section

namespace Peer

/-- `v` is the greatest of the values `f`. -/
def Top {n : Nat} (f : Fin n → EReal) (v : EReal) : Prop := (∀ r, f r ≤ v) ∧ ∃ r, f r = v

/-- `k` is the least place at which `f` attains `v`. -/
def First {n : Nat} (f : Fin n → EReal) (v : EReal) (k : Nat) : Prop :=
  (∃ h : k < n, f ⟨k, h⟩ = v) ∧ ∀ r, f r = v → k ≤ r.val

/-- There is one greatest value. -/
theorem Top.unique {n : Nat} {f : Fin n → EReal} {v w : EReal} (hv : Top f v) (hw : Top f w) : v = w := by
  obtain ⟨r, hr⟩ := hv.2
  obtain ⟨q, hq⟩ := hw.2
  exact le_antisymm (hr ▸ hw.1 r) (hq ▸ hv.1 q)

/-- There is one least place. -/
theorem First.unique {n : Nat} {f : Fin n → EReal} {v : EReal} {k j : Nat} (hk : First f v k) (hj : First f v j) :
    k = j := by
  obtain ⟨h, e⟩ := hk.1
  obtain ⟨h', e'⟩ := hj.1
  exact le_antisymm (hk.2 _ e') (hj.2 _ e)

/-- A fold of `max` from the least value is the greatest. -/
theorem top_fold {n : Nat} (hn : 0 < n) (f : Fin n → EReal) : Top f ((Finset.univ : Finset (Fin n)).fold max ⊥ f) := by
  have : Nonempty (Fin n) := ⟨⟨0, hn⟩⟩
  obtain ⟨r, hr⟩ := Finite.exists_max f
  have hle : ∀ q, f q ≤ (Finset.univ : Finset (Fin n)).fold max ⊥ f := fun q =>
    Finset.le_fold_max _ |>.2 (.inr ⟨q, Finset.mem_univ _, le_rfl⟩)
  exact ⟨hle, r, le_antisymm (hle r) (Finset.fold_max_le _ |>.2 ⟨bot_le, fun q _ => hr q⟩)⟩

/-- A fold of `min` is the value some place attains, if that value is at most the start and every other. -/
theorem fold_min_eq {α ι : Type} [LinearOrder α] [Fintype ι] {b : α} {f : ι → α} (i : ι) (hb : f i ≤ b)
    (h : ∀ j, f i ≤ f j) : (Finset.univ : Finset ι).fold min b f = f i :=
  le_antisymm (Finset.fold_min_le _ |>.2 (.inr ⟨i, Finset.mem_univ _, le_rfl⟩))
    (Finset.le_fold_min _ |>.2 ⟨hb, fun j _ => h j⟩)

/-- Among finitely many values there is a least place of the greatest. -/
theorem first_exists {n : Nat} {f : Fin n → EReal} {v : EReal} (h : Top f v) : ∃ k, First f v k := by
  classical
  have hne : (Finset.univ.filter fun r => f r = v).Nonempty := by
    obtain ⟨r, hr⟩ := h.2
    exact ⟨r, by simp [hr]⟩
  obtain ⟨r, hr, hmin⟩ := Finset.exists_min_image _ (fun r : Fin n => r) hne
  exact ⟨r.val, ⟨r.isLt, (Finset.mem_filter.1 hr).2⟩, fun q hq => hmin q (by simp [hq])⟩

/-- Place `r` of piece `b`, among all places. -/
def stacked (b : Fin 32) (r : Fin 256) : Fin 8192 := ⟨256 * b.val + r.val, by omega⟩

/-- Every place is a place of one piece. -/
theorem stacked_surj (n : Fin 8192) : ∃ b r, stacked b r = n :=
  ⟨⟨n.val / 256, by omega⟩, ⟨n.val % 256, by omega⟩, Fin.ext (by show 256 * (n.val / 256) + n.val % 256 = _; omega)⟩

/-- The greatest of the pieces' greatest values is the greatest of all. -/
theorem top_pieces {f : Fin 8192 → EReal} {t : Fin 32 → EReal} {v : EReal}
    (ht : ∀ b, Top (fun r => f (stacked b r)) (t b)) (hv : Top t v) : Top f v := by
  refine ⟨fun n => ?_, ?_⟩
  · obtain ⟨b, r, rfl⟩ := stacked_surj n
    exact ((ht b).1 r).trans (hv.1 b)
  · obtain ⟨b, hb⟩ := hv.2
    obtain ⟨r, hr⟩ := (ht b).2
    exact ⟨stacked b r, hr.trans hb⟩

/-- The least of the places the pieces of greatest value name is the least of all. -/
theorem first_pieces {f : Fin 8192 → EReal} {t : Fin 32 → EReal} {v : EReal} {p : Fin 32 → Nat} {k : Nat}
    (ht : ∀ b, Top (fun r => f (stacked b r)) (t b)) (hp : ∀ b, First (fun r => f (stacked b r)) (t b) (p b))
    (hv : Top t v) (hk : First f v k) :
    (∃ b, t b = v ∧ 256 * b.val + p b = k) ∧ ∀ b, t b = v → k ≤ 256 * b.val + p b := by
  have hle : ∀ b, t b = v → k ≤ 256 * b.val + p b := by
    intro b hb
    obtain ⟨h, e⟩ := (hp b).1
    exact hk.2 (stacked b ⟨p b, h⟩) (e.trans hb)
  refine ⟨?_, hle⟩
  obtain ⟨h, e⟩ := hk.1
  obtain ⟨b, r, hbr⟩ := stacked_surj ⟨k, h⟩
  have hk' : 256 * b.val + r.val = k := congrArg Fin.val hbr
  rw [← hbr] at e
  have hb : t b = v := le_antisymm (hv.1 b) (e ▸ (ht b).1 r)
  refine ⟨b, hb, le_antisymm ?_ (hle b hb)⟩
  have := (hp b).2 r (e.trans hb.symm)
  omega

/-- So a fold of `min` over the pieces in any order, with a value above every place where a piece is not of greatest
    value, is the least place of all. -/
theorem fold_pieces {f : Fin 8192 → EReal} {t : Fin 32 → EReal} {v big : EReal} {p : Fin 32 → Nat} {k : Nat}
    {d : Fin 32 → Fin 32} (hd : ∀ b, ∃ q, d q = b) (hbig : ((8192 : ℝ) : EReal) ≤ big)
    (ht : ∀ b, Top (fun r => f (stacked b r)) (t b)) (hp : ∀ b, First (fun r => f (stacked b r)) (t b) (p b))
    (hv : Top t v) (hk : First f v k) {g : Fin 32 → EReal}
    (hg : ∀ q, g q = if t (d q) = v then (((256 * (d q).val + p (d q) : Nat) : ℝ) : EReal) else big) :
    (Finset.univ : Finset (Fin 32)).fold min ⊤ g = ((k : ℝ) : EReal) := by
  obtain ⟨⟨b, hb, hbk⟩, hle⟩ := first_pieces ht hp hv hk
  obtain ⟨q, rfl⟩ := hd b
  have hq : g q = ((k : ℝ) : EReal) := by rw [hg, if_pos hb, hbk]
  rw [← hq]
  refine fold_min_eq q le_top fun j => ?_
  rw [hq, hg]
  split
  · next h => exact EReal.coe_le_coe_iff.2 (Nat.cast_le.2 (hle _ h))
  · refine le_trans (EReal.coe_le_coe_iff.2 ?_) hbig
    obtain ⟨h, _⟩ := hk.1
    exact_mod_cast h.le

end Peer

end
-- ==== Proof.Local.lean ====
/-
  What the kernel's vector operations compute, element by element, at extended reals: a device's column maxima and the
  rows that hold them, and the same over the gathered values.
-/
module

public import proofs.«01_k».proof.Proof.Maths
public import proofs.«01_k».proof.Proof.Slots
public import Idealize.ShloMosaic.Lib.ValueIdx

@[expose] public section

noncomputable section

namespace Peer

open Cert.KernelIdeal Cert.KernelIdeal.Gen
open Idealize.ShloMosaic Idealize.ShloMosaic.TcCoe Idealize.ShloMosaic.ValueIdx

/-! ### Constants -/

/-- The word of minus infinity. -/
theorem bits_bot : Ideal.ofBits .f32 0xFF800000#32 = ⊥ := by simp [Ideal.ofBits, Ideal.ieee]
/-- The word of plus infinity. -/
theorem bits_top : Ideal.ofBits .f32 0x7F800000#32 = ⊤ := by simp [Ideal.ofBits, Ideal.ieee]
/-- The value standing for "not here" is above every row's number. -/
theorem bits_big : ((8192 : ℝ) : EReal) ≤ Ideal.ofBits .f32 0x4E6E6B28#32 := by
  simp [Ideal.ofBits, Ideal.ieee, -EReal.coe_mul]; norm_num

/-! ### Reductions down the columns -/

/-- The source index a reduction down the columns meets at row `k` of column `l`. -/
theorem lift_rows {n : Nat} (h : Shape.Reduces ⟨2, ![n, 256]⟩ [0] S256) (l : Fin 256) (k : Fin n) :
    h.lift (ix1 l) k = (ix2 k l : (⟨2, ![n, 256]⟩ : Shape).Idx) := by
  funext a
  apply Fin.ext
  match a with
  | ⟨0, _⟩ => rfl
  | ⟨1, _⟩ => rfl

/-- The elements a reduction down column `l` meets. -/
theorem lift_col {n : Nat} {α : Type} (x : (⟨2, ![n, 256]⟩ : Shape).Idx → α) (h : Shape.Reduces ⟨2, ![n, 256]⟩ [0] S256)
    (l : Fin 256) : (x ∘ h.lift (ix1 l) : Fin n → α) = fun r => x (ix2 r l) :=
  funext fun k => congrArg x (lift_rows h l k)

/-- A maximum down the columns is the greatest of each column. -/
theorem max_rows {n : Nat} (hn : 0 < n) (x : FVec Ideal ⟨2, ![n, 256]⟩ .f32) (h : Shape.Reduces ⟨2, ![n, 256]⟩ [0] S256)
    (hφ : FKind.Formats .f32) (hacc : (0xFF800000#32 : BitVec 32) = FKind.maximumf.neutral .f32 hφ) (l : Fin 256) :
    Top (fun r : Fin n => x (ix2 r l)) (multiReduction .maximumf [0] S256 x 0xFF800000#32 h hφ hacc (ix1 l)) := by
  have e : multiReduction .maximumf [0] S256 x 0xFF800000#32 h hφ hacc (ix1 l)
      = (Finset.univ : Finset (Fin n)).fold max ⊥ (fun r => x (ix2 r l)) := by
    refine (Ideal.multiReduction_maximumf_single x _ h hφ hacc (ix1 l)).trans ?_
    show (Finset.univ : Finset (Fin n)).fold max (Ideal.ofBits .f32 0xFF800000#32) (x ∘ h.lift (ix1 l)) = _
    rw [bits_bot]
    exact congrArg (fun f : Fin n → EReal => (Finset.univ : Finset (Fin n)).fold max ⊥ f) (lift_col x h l)
  rw [e]; exact top_fold hn _

/-- A minimum down the columns as a fold over the rows. -/
theorem min_rows {n : Nat} (x : FVec Ideal ⟨2, ![n, 256]⟩ .f32) (h : Shape.Reduces ⟨2, ![n, 256]⟩ [0] S256)
    (hφ : FKind.Formats .f32) (hacc : (0x7F800000#32 : BitVec 32) = FKind.minimumf.neutral .f32 hφ) (l : Fin 256) :
    multiReduction .minimumf [0] S256 x 0x7F800000#32 h hφ hacc (ix1 l)
      = (Finset.univ : Finset (Fin n)).fold min ⊤ (fun r => x (ix2 r l)) := by
  refine (multiReduction_minimumf_eq_fold x _ h hφ hacc (ix1 l)).trans
    ((h.fold_filter_drop_single _ _ x (ix1 l)).trans ?_)
  show (Finset.univ : Finset (Fin n)).fold min (Ideal.ofBits .f32 0x7F800000#32) (x ∘ h.lift (ix1 l)) = _
  rw [bits_top]
  exact congrArg (fun f : Fin n → EReal => (Finset.univ : Finset (Fin n)).fold min ⊤ f) (lift_col x h l)

/-- An integer minimum of two words, as a number. -/
theorem toInt_minsi (a b : BitVec 32) : (IntOp.minsi a b).toInt = min a.toInt b.toInt := by
  unfold IntOp.minsi
  rw [BitVec.slt_eq_decide]
  rcases lt_or_ge a.toInt b.toInt with h | h
  · simp [h, h.le]
  · simp [not_lt.2 h, h]

/-- An integer minimum down the columns is, as a number, a fold over the rows. -/
theorem minI_rows {n : Nat} (x : IVec ⟨2, ![n, 256]⟩ 32) (h : Shape.Reduces ⟨2, ![n, 256]⟩ [0] S256)
    (hacc : (2147483647#32 : BitVec 32) = IKind.minsi.neutral) (l : Fin 256) :
    (multiReductionI .minsi [0] S256 x 2147483647#32 h hacc (ix1 l)).toInt
      = (Finset.univ : Finset (Fin n)).fold min 2147483647 (fun r => (x (ix2 r l)).toInt) := by
  rw [multiReductionI_eq_fold, h.fold_filter_drop_single]
  refine Eq.trans ?_ (Finset.fold_hom (op := IKind.minsi.op) (op' := min) (m := BitVec.toInt) (b := 2147483647#32)
    (f := fun r => x (ix2 r l)) (s := (Finset.univ : Finset (Fin n))) toInt_minsi).symm
  exact congrArg (fun f : Fin n → BitVec 32 => ((Finset.univ : Finset (Fin n)).fold IKind.minsi.op 2147483647#32 f).toInt)
    (lift_col x h l)

/-! ### One device's block -/

/-- A vector repeated over the rows, read at an element. -/
theorem overRows {n : Nat} (v : FVec Ideal S256 .f32) (hc : S256.ShapeCasts S1x256)
    (hb : S1x256.Broadcasts ⟨2, ![n, 256]⟩) (r : Fin n) (l : Fin 256) :
    broadcastTo ⟨2, ![n, 256]⟩ (shapeCast S1x256 v hc) hb (ix2 r l) = v (ix1 l) := by
  rw [broadcastTo_apply _ hb (ix2 r l) (ix2 (0 : Fin 1) l) (fun a => by
    match a with
    | ⟨0, _⟩ => rfl
    | ⟨1, _⟩ => rfl)]
  exact shapeCast_apply v hc _ (ix1 l) (by
    rw [Shape.rowMajor_val_one, Shape.rowMajor_val_two]
    show l.val = 0 * 256 + l.val; omega)

/-- A selection by an equality. -/
theorem select_oeq {α : Type} (a b : EReal) (u v : α) :
    Scalar.select (Ideal.cmp .oeq a b) u v = if a = b then u else v := by
  by_cases h : a = b <;> simp [Scalar.select, Ideal.cmp, h]

/-- Column `l`'s greatest element of a block. -/
theorem pay1_top (x : Vec Ideal S256x256 .f32) (l : Fin 256) :
    Top (fun r : Fin 256 => x (ix2 r l)) (k0_pay1 x (ix1 l)) :=
  max_rows (by decide) x reduces_S256x256_S256 (.inl rfl) rfl l

/-- It is the value the device contributes for the column. -/
theorem pay2_apply (x : Vec Ideal S256x256 .f32) (l : Fin 256) :
    k0_pay2 x (ix3 (0 : Fin 1) (0 : Fin 1) l) = k0_pay1 x (ix1 l) :=
  shapeCast_apply (k0_pay1 x) shapeCasts_S256_S1x1x256 (ix3 (0 : Fin 1) (0 : Fin 1) l) (ix1 l) (by
    rw [Shape.rowMajor_val_one, Shape.rowMajor_val_three]
    show l.val = (0 * 1 + 0) * 256 + l.val; omega)

/-- The number of the device, as the kernel computes it. -/
theorem wordOf_eq (b : Dev nD) : wordOf b = BitVec.ofNat 32 b.val := by revert b; decide +kernel

/-- The word a device finds in a column is that of the least row holding the greatest element. -/
theorem found {x : Vec Ideal S256x256 .f32} {l : Fin 256} {k : Nat}
    (hk : First (fun r : Fin 256 => x (ix2 r l)) (k0_pay1 x (ix1 l)) k) :
    multiReductionI .minsi [0] S256 (select (cmpf .oeq x (broadcastTo S256x256 (shapeCast S1x256 (k0_pay1 x)
        shapeCasts_S256_S1x256) broadcasts_S1x256_S256x256)) (iota .tc S256x256 32 [0] iota_S256x256_d0_w32)
        (broadcast S256x256 256#32)) 2147483647#32 reduces_S256x256_S256 rfl (ix1 l)
      = BitVec.ofNat 32 k := by
  have hlt : k < 256 := hk.1.1
  have hnum : ∀ j : Nat, j ≤ 256 → (BitVec.ofNat 32 j).toInt = (j : Int) := fun j hj => by
    rw [BitVec.toInt_ofNat']
    exact Int.bmod_eq_of_le (by omega) (by omega)
  have hval : ∀ r : Fin 256, (select (cmpf .oeq x (broadcastTo S256x256 (shapeCast S1x256 (k0_pay1 x)
        shapeCasts_S256_S1x256) broadcasts_S1x256_S256x256)) (iota .tc S256x256 32 [0] iota_S256x256_d0_w32)
        (broadcast S256x256 256#32) (ix2 r l)).toInt
      = if x (ix2 r l) = k0_pay1 x (ix1 l) then (r.val : Int) else 256 := fun r => by
    show (Scalar.select (Ideal.cmp .oeq (x (ix2 r l)) _) (iota .tc S256x256 32 [0] iota_S256x256_d0_w32 (ix2 r l)) 256#32).toInt = _
    rw [overRows, select_oeq, iota_single_apply]
    split
    · exact hnum _ r.isLt.le
    · rfl
  apply BitVec.eq_of_toInt_eq
  rw [hnum k hlt.le]
  refine (minI_rows _ _ _ l).trans ?_
  rw [funext hval]
  obtain ⟨h, e⟩ := hk.1
  have e0 : (if x (ix2 (⟨k, h⟩ : Fin 256) l) = k0_pay1 x (ix1 l) then (((⟨k, h⟩ : Fin 256).val : Nat) : Int) else 256) = k :=
    if_pos e
  refine (fold_min_eq (⟨k, h⟩ : Fin 256) ?_ fun j => ?_).trans e0
  · rw [e0]; omega
  · rw [e0]
    split
    · next hj => exact Int.ofNat_le.2 (hk.2 j hj)
    · omega

/-- The number a device contributes for a column: the row, counted over all devices. -/
theorem pay3_apply {x : Vec Ideal S256x256 .f32} {b : Dev nD} {l : Fin 256} {k : Nat}
    (hk : First (fun r : Fin 256 => x (ix2 r l)) (k0_pay1 x (ix1 l)) k) :
    k0_pay3 (wordOf b) x (ix3 (0 : Fin 1) (0 : Fin 1) l) = (((256 * b.val + k : Nat) : ℝ) : EReal) := by
  have hlt : k < 256 := hk.1.1
  have hb : b.val < 32 := b.isLt
  unfold k0_pay3
  refine (shapeCast_apply _ _ _ (ix1 l) (by
    rw [Shape.rowMajor_val_one, Shape.rowMajor_val_three]
    show l.val = (0 * 1 + 0) * 256 + l.val; omega)).trans ?_
  show (((IntOp.addi (multiReductionI .minsi [0] S256 _ 2147483647#32 reduces_S256x256_S256 rfl (ix1 l))
    (Scalar.muli (wordOf b) 256#32)).toInt : ℝ) : EReal) = _
  rw [found hk, wordOf_eq]
  have : (IntOp.addi (BitVec.ofNat 32 k) (Scalar.muli (BitVec.ofNat 32 b.val) 256#32)).toInt = ((256 * b.val + k : Nat) : Int) := by
    have e : IntOp.addi (BitVec.ofNat 32 k) (Scalar.muli (BitVec.ofNat 32 b.val) 256#32) = BitVec.ofNat 32 (256 * b.val + k) := by
      apply BitVec.eq_of_toNat_eq
      simp only [IntOp.addi, Scalar.muli, IntOp.muli, BitVec.toNat_add, BitVec.toNat_mul, BitVec.toNat_ofNat]
      omega
    rw [e, BitVec.toInt_ofNat']
    exact Int.bmod_eq_of_le (by omega) (by omega)
  rw [this]
  norm_cast

end Peer

end
-- ==== Proof.Value.lean ====
/-
  The kernel's result at extended reals, element by element: with the devices' blocks the rows of one array, a column's
  greatest element, and the number of the least row that holds it.
-/
module

public import proofs.«01_k».proof.Proof.Local

@[expose] public section

noncomputable section

namespace Peer

open Cert.KernelIdeal Cert.KernelIdeal.Gen
open Idealize.ShloMosaic Idealize.ShloMosaic.TcCoe Idealize.ShloMosaic.ValueIdx

/-! ### Which device's contribution lies where -/

/-- The device whose contribution is row `q` of the gathered values on device `c`. -/
def src (c : Dev nD) (q : Fin 32) : Fin 32 :=
  zsrc ⟨q.val % 4, by omega⟩ (psrc ⟨q.val / 4, by omega⟩ c)

/-- Every device's contribution is there. -/
theorem src_surj (c : Dev nD) (b : Fin 32) : ∃ q, src c q = b := by
  have h : ∀ (c b : Fin 32), ∃ q, src c q = b := by decide +kernel
  exact h c b

/-- The gathered values as 32 rows. -/
theorem rows_apply (v : Vec Ideal S1x8x4x256 .f32) (q : Fin 32) (l : Fin 256) :
    shapeCast S32x256 (shapeCast S8x4x256 v shapeCasts_S1x8x4x256_S8x4x256) shapeCasts_S8x4x256_S32x256 (ix2 q l)
      = v (ix4 (0 : Fin 1) (⟨q.val / 4, by omega⟩ : Fin 8) (⟨q.val % 4, by omega⟩ : Fin 4) l) := by
  rw [shapeCast_apply (shapeCast S8x4x256 v shapeCasts_S1x8x4x256_S8x4x256) shapeCasts_S8x4x256_S32x256 (ix2 q l)
    (ix3 (⟨q.val / 4, by omega⟩ : Fin 8) (⟨q.val % 4, by omega⟩ : Fin 4) l) (by
      rw [Shape.rowMajor_val_three, Shape.rowMajor_val_two]
      show (q.val / 4 * 4 + q.val % 4) * 256 + l.val = q.val * 256 + l.val
      omega)]
  exact shapeCast_apply v _ _ _ (by
    rw [Shape.rowMajor_val_four, Shape.rowMajor_val_three]
    show ((0 * 8 + q.val / 4) * 4 + q.val % 4) * 256 + l.val = (q.val / 4 * 4 + q.val % 4) * 256 + l.val
    omega)

/-- The gathered buffer's element: which device's it is. -/
theorem GP_apply (x : Blocks Ideal) (c : Dev nD) (a : Fin 2) (k : Fin 8) (j : Fin 4) (l : Fin 256) :
    GP x c (ix4 a k j l) = contrib x (zsrc j (psrc k c)) a l := rfl

/-- Reading a part of the gathered buffer. -/
theorem gp_read (r : Rect S2x8x4x256) (v : Vec Ideal S2x8x4x256 .f32) (i : r.shape.Idx) :
    gpM.view.readAt (Elt Ideal) r.toLoadRect v i = v (r.emb i) := rfl

/-- The gathered maxima: which device's each is. -/
theorem tops_apply (x : Blocks Ideal) (c : Dev nD) (k : Fin 8) (j : Fin 4) (l : Fin 256) :
    tops x c (ix4 (0 : Fin 1) k j l) = contrib x (zsrc j (psrc k c)) 0 l := by
  have h : ra0.emb (ix4 (0 : Fin 1) k j l) = (ix4 (0 : Fin 2) k j l : S2x8x4x256.Idx) := by
    funext a; apply Fin.ext; rw [Rect.emb_apply]
    match a with
    | ⟨0, _⟩ => rfl
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  exact (gp_read ra0 (GP x c) (ix4 (0 : Fin 1) k j l)).trans ((congrArg (GP x c) h).trans (GP_apply x c 0 k j l))

/-- The gathered rows: which device's each is. -/
theorem spots_apply (x : Blocks Ideal) (c : Dev nD) (k : Fin 8) (j : Fin 4) (l : Fin 256) :
    spots x c (ix4 (0 : Fin 1) k j l) = contrib x (zsrc j (psrc k c)) 1 l := by
  have h : ra1.emb (ix4 (0 : Fin 1) k j l) = (ix4 (1 : Fin 2) k j l : S2x8x4x256.Idx) := by
    funext a; apply Fin.ext; rw [Rect.emb_apply]
    match a with
    | ⟨0, _⟩ => rfl
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  unfold spots
  exact congrArg (GP x c) h

/-- Row `q` of the gathered maxima. -/
theorem pay5_apply (x : Blocks Ideal) (c : Dev nD) (q : Fin 32) (l : Fin 256) :
    k0_pay5 (tops x c) (ix2 q l) = k0_pay1 (x (src c q)) (ix1 l) := by
  unfold k0_pay5
  refine (rows_apply (tops x c) q l).trans ((tops_apply x c _ _ l).trans ?_)
  rw [contrib_zero, pay2_apply]; rfl

/-- Row `q` of the gathered places. -/
theorem places_apply (x : Blocks Ideal) (c : Dev nD) (q : Fin 32) (l : Fin 256) :
    shapeCast S32x256 (shapeCast S8x4x256 (spots x c) shapeCasts_S1x8x4x256_S8x4x256) shapeCasts_S8x4x256_S32x256 (ix2 q l)
      = k0_pay3 (wordOf (src c q)) (x (src c q)) (ix3 (0 : Fin 1) (0 : Fin 1) l) :=
  (rows_apply (spots x c) q l).trans ((spots_apply x c _ _ l).trans (contrib_one x _ l))

/-! ### The result -/

/-- Column `l` of all blocks, one below the other. -/
def whole (x : Blocks Ideal) (l : Fin 256) (n : Fin 8192) : EReal :=
  x (⟨n.val / 256, by omega⟩ : Fin 32) (ix2 (⟨n.val % 256, by omega⟩ : Fin 256) l)

/-- The stacked column at a place of a block. -/
theorem whole_place (x : Blocks Ideal) (l : Fin 256) (b : Fin 32) (r : Fin 256) :
    whole x l (stacked b r) = x b (ix2 r l) := by
  have hb : (⟨(stacked b r).val / 256, by omega⟩ : Fin 32) = b :=
    Fin.ext (by show (256 * b.val + r.val) / 256 = b.val; omega)
  have hr : (⟨(stacked b r).val % 256, by omega⟩ : Fin 256) = r :=
    Fin.ext (by show (256 * b.val + r.val) % 256 = r.val; omega)
  unfold whole; rw [hb, hr]

/-- Each device's maximum is that of its piece. -/
theorem pieces (x : Blocks Ideal) (l : Fin 256) (b : Fin 32) :
    Top (fun r => whole x l (stacked b r)) (k0_pay1 (x b) (ix1 l)) := by
  simp only [whole_place]; exact pay1_top (x b) l

/-- The maximum over the gathered maxima is the greatest device's. -/
theorem pay6_pieces (x : Blocks Ideal) (c : Dev nD) (l : Fin 256) :
    Top (fun b : Fin 32 => k0_pay1 (x b) (ix1 l)) (k0_pay6 (tops x c) (ix1 l)) := by
  have h : Top (fun q : Fin 32 => k0_pay5 (tops x c) (ix2 q l)) (k0_pay6 (tops x c) (ix1 l)) :=
    max_rows (by decide) (k0_pay5 (tops x c)) reduces_S32x256_S256 (.inl rfl) rfl l
  simp only [pay5_apply] at h
  refine ⟨fun b => ?_, ?_⟩
  · obtain ⟨q, rfl⟩ := src_surj c b
    exact h.1 q
  · obtain ⟨q, hq⟩ := h.2
    exact ⟨_, hq⟩

/-- A vector as one row, read at an element. -/
theorem row_cast (v : FVec Ideal S256 .f32) (l : Fin 256) :
    shapeCast S1x256 v shapeCasts_S256_S1x256 (ix2 (0 : Fin 1) l) = v (ix1 l) :=
  shapeCast_apply v _ _ (ix1 l) (by
    rw [Shape.rowMajor_val_one, Shape.rowMajor_val_two]
    show l.val = 0 * 256 + l.val; omega)

/-- Row 0 of the result: the columns' greatest elements. -/
theorem out_top (x : Blocks Ideal) (c : Dev nD) (l : Fin 256) : Top (whole x l) (out x c (ix2 (0 : Fin 2) l)) := by
  have e : out x c (ix2 (0 : Fin 2) l) = k0_pay6 (tops x c) (ix1 l) :=
    (outAt_zero x c l).trans (row_cast (k0_pay6 (tops x c)) l)
  rw [e]
  exact top_pieces (pieces x l) (pay6_pieces x c l)

/-- Row 1 of the result: the least rows in which they lie. -/
theorem out_first (x : Blocks Ideal) (c : Dev nD) (l : Fin 256) {k : Nat}
    (hk : First (whole x l) (out x c (ix2 (0 : Fin 2) l)) k) : out x c (ix2 (1 : Fin 2) l) = ((k : ℝ) : EReal) := by
  have e0 : out x c (ix2 (0 : Fin 2) l) = k0_pay6 (tops x c) (ix1 l) :=
    (outAt_zero x c l).trans (row_cast (k0_pay6 (tops x c)) l)
  have e1 : out x c (ix2 (1 : Fin 2) l) = k0_pay7 (tops x c) (spots x c) (ix1 l) :=
    (outAt_one x c l).trans (row_cast (k0_pay7 (tops x c) (spots x c)) l)
  rw [e0] at hk
  rw [e1]
  have hp : ∀ b : Fin 32, ∃ p, First (fun r => whole x l (stacked b r)) (k0_pay1 (x b) (ix1 l)) p :=
    fun b => first_exists (pieces x l b)
  choose p hp using hp
  have hp' : ∀ b : Fin 32, First (fun r : Fin 256 => x b (ix2 r l)) (k0_pay1 (x b) (ix1 l)) (p b) := fun b => by
    have := hp b
    simp only [whole_place] at this
    exact this
  unfold k0_pay7
  refine (min_rows _ reduces_S32x256_S256 (.inl rfl) rfl l).trans ?_
  refine fold_pieces (d := src c) (src_surj c) bits_big (pieces x l) hp (pay6_pieces x c l) hk fun q => ?_
  show Scalar.select (Ideal.cmp .oeq (k0_pay5 (tops x c) (ix2 q l)) _) (shapeCast S32x256 _ _ (ix2 q l)) _ = _
  rw [overRows, select_oeq, pay5_apply, places_apply, pay3_apply (hp' (src c q))]
  rfl

end Peer

end
-- ==== Proof.RefRun.lean ====
/-
  The reference's run: @main is a straight line of tensor operations, and every buffer ends at their fold over the
  launch contents; the result as one term of the argument.
-/
module

public import proofs.«01_k».proof.Proof.Gen.ReferenceIdeal
public import Idealize.ShloMosaic.Lib.StableHlo.Run
public import Idealize.ShloMosaic.Lib.Quiescent

@[expose] public section

noncomputable section

namespace RefRun

open Cert.ReferenceIdeal
open Idealize.ShloMosaic Idealize.ShloMosaic.TcCoe Idealize.ShloMosaic.StableHlo Idealize.SL.Sem
open Cert.ReferenceIdeal.Facts₀ Cert.ReferenceIdeal.Facts

variable {F : FTy → Type} [FloatOps F]

/-- The columns' largest elements. -/
def top (x : Vec F S8192x256 .f32) : Vec F S256 .f32 :=
  Host.reduce FloatOps.maximumf x (constant S_ .f32 0xFF800000#32) reducesTo_S8192x256_S256_d0 h_S_

/-- The columns' largest elements, each with the row in which it lies. -/
def pair (x : Vec F S8192x256 .f32) : S256.Idx → F .f32 × BitVec 32 :=
  Host.argReduce reducer_argmax_f32_i32 x (iotaInDim S8192x256 32 0) (constant S_ .f32 0xFF800000#32)
    (constantI S_ 32 0#32) reducesTo_S8192x256_S256_d0 h_S_

/-- The rows in which they lie. -/
def row (x : Vec F S8192x256 .f32) : IVec S256 32 := fun j => (pair x j).2

/-- Two rows, one above the other. -/
def stack (a b : Vec F S1x256 .f32) : Vec F S2x256 .f32 :=
  concatenate S2x256 0 [⟨S1x256, a⟩, ⟨S1x256, b⟩] concatenates_S1x256_S1x256_S2x256_d0

/-- The result: the two as rows. -/
def res (x : Vec F S8192x256 .f32) : Vec F S2x256 .f32 :=
  stack (broadcastInDim S1x256 ![1] bcast_S256_S1x256_1 (top x))
    (broadcastInDim S1x256 ![1] bcast_S256_S1x256_1 (sitofp .f32 (row x)))

/-- @main's operations, the called function's in its place. -/
abbrev ops : List (HloOp τ sig (Elt F)) :=
  [ TRef.nullary main_call0.v0 (iotaInDim S8192x256 32 0),
    TRef.nullary main_call0.cst (constant S_ .f32 0xFF800000#32),
    TRef.nullary main_call0.c (constantI S_ 32 0#32),
    TRef.quaternary (.of main_arg0) main_call0.v0 main_call0.cst main_call0.c main_call0.v1_0 (fun x y u v j => (Host.argReduce reducer_argmax_f32_i32 x y u v reducesTo_S8192x256_S256_d0 h_S_ j).1),
    TRef.quaternary (.of main_arg0) main_call0.v0 main_call0.cst main_call0.c main_call0.v1_1 (fun x y u v j => (Host.argReduce reducer_argmax_f32_i32 x y u v reducesTo_S8192x256_S256_d0 h_S_ j).2),
    unary main_v0 main_v1 (sitofp .f32),
    nullary main_cst (constant S_ .f32 0xFF800000#32),
    binary main_arg0 main_cst main_v2 (fun x v => Host.reduce FloatOps.maximumf x v reducesTo_S8192x256_S256_d0 h_S_),
    unary main_v2 main_v3 (broadcastInDim S1x256 ![1] bcast_S256_S1x256_1),
    unary main_v1 main_v4 (broadcastInDim S1x256 ![1] bcast_S256_S1x256_1),
    binary main_v3 main_v4 main_v5 stack ]

/-- @main runs them in order. -/
theorem main_eq (c : Dev nD) : main (F := F) c = seq ops := by
  simp only [main, fn_argmax.body, seq, bind_assoc, pure_bind]
  rfl

/-- The result's buffer ends at `res` of the argument. -/
theorem res_eq (V : Valuation τ sig (Elt F)) :
    after ops V (main_v5 : DevRef τ sig) = res (V (main_arg0 : DevRef τ sig)) := by
  after_results_simp
  simp only [TRef.toBuf, TRef.ofBuf, cast_eq]
  rfl

/-- The argument's buffer keeps its contents. -/
theorem arg_eq (V : Valuation τ sig (Elt F)) :
    after ops V (main_arg0 : DevRef τ sig) = V (main_arg0 : DevRef τ sig) := by
  simp only [after_cons, after_nil]
  rfl

/-- No buffer is a kernel's scratch. -/
theorem no_scoped_buf : (Finset.univ.filter fun b : Ref sig .tc => b.isScoped) = ∅ := by decide
/-- No semaphore is declared. -/
theorem no_scoped_sem : (Finset.univ.filter fun sm : SemLoc sig => sm.isScoped .tc) = ∅ := by decide

/-- Every operation works on device buffers. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

/-- The run: the result is `res` of the argument, which keeps its contents; no semaphore is left counted. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5) = res (m ((c.tc : Thread nD τ).loc main_arg0))
        ∧ r.2.mem ((c.tc : Thread nD τ).loc main_arg0) = m ((c.tc : Thread nD τ).loc main_arg0))
      ∧ r.2.sem = fun _ => 0 :=
  (θ_run defs _ _).mono
    (fun r h => ⟨fun c => ⟨(h c main_v5).trans (res_eq _), (h c main_arg0).trans (arg_eq _)⟩,
      Idealize.ShloMosaic.sem_eq_zero_of_no_sems (by decide) r.2⟩)
    (run_seq no_scoped_buf no_scoped_sem defs main (fun _ => ops) main_eq (fun _ => ops_sub) m ρ)

end RefRun

end
-- ==== Proof.RefValue.lean ====
/-
  The reference's result at extended reals, element by element: a column's greatest element, and the number of the
  least row that holds it.
-/
module

public import proofs.«01_k».proof.Proof.Maths
public import proofs.«01_k».proof.Proof.RefRun
public import Idealize.ShloMosaic.Lib.Pipeline.Value
public import Idealize.ShloMosaic.Lib.ValueIdx

@[expose] public section

noncomputable section

namespace RefRun

open Cert.ReferenceIdeal Peer
open Idealize.ShloMosaic Idealize.ShloMosaic.TcCoe Idealize.ShloMosaic.ValueIdx
open Cert.ReferenceIdeal.Facts₀ Cert.ReferenceIdeal.Facts

/-- Column `l` of the array. -/
abbrev col (x : Vec Ideal S8192x256 .f32) (l : Fin 256) : Fin 8192 → EReal := fun n => x (ix2 n l)

/-- The same reduction's shape condition in the kernel's form. -/
theorem reduces : S8192x256.Reduces [0] S256 := by decide

/-- The element a reduction down column `l` meets at row `k`. -/
theorem lift_eq (l : Fin 256) (k : Fin 8192) : reduces.lift (ix1 l) k = (ix2 k l : S8192x256.Idx) := by
  funext a
  apply Fin.ext
  match a with
  | ⟨0, _⟩ => rfl
  | ⟨1, _⟩ => rfl

/-- An element dropped to column `l` lies in column `l`. -/
theorem of_drop {i : S8192x256.Idx} {l : Fin 256} (h : reducesTo_S8192x256_S256_d0.drop i = ix1 l) :
    ∃ n : Fin 8192, i = ix2 n l := by
  obtain ⟨n, l', rfl⟩ : ∃ (n : Fin 8192) (l' : Fin 256), i = ix2 n l' := ⟨_, _, eq_ix2 i⟩
  have e := congrArg Fin.val (congrFun h 0)
  rw [reducesTo_S8192x256_S256_d0.drop_apply_val_of_eq (ix2 n l') 0 1] at e
  exact ⟨n, congrArg (ix2 n) (Fin.ext e)⟩

/-- An element of column `l` drops to column `l`. -/
theorem drop_of (n : Fin 8192) (l : Fin 256) : reducesTo_S8192x256_S256_d0.drop (ix2 n l) = ix1 l := by
  rw [← lift_eq]; exact reduces.drop_lift (ix1 l) n

/-- The word of minus infinity, at which the reference's reductions start. -/
theorem init_bot : Ideal.ofBits .f32 0xFF800000#32 = ⊥ := by simp [Ideal.ofBits, Ideal.ieee]

/-- The first result is the column's greatest element. -/
theorem top_spec (x : Vec Ideal S8192x256 .f32) (l : Fin 256) : Top (col x l) (top x (ix1 l)) := by
  have hx : (x ∘ reduces.lift (ix1 l) : Fin 8192 → EReal) = col x l := funext fun k => congrArg x (lift_eq l k)
  have e : top x (ix1 l) = (Finset.univ : Finset (Fin 8192)).fold max ⊥ (col x l) := by
    have h1 := Host.reduce_eq_fold (s := S8192x256) (t := S256) (u := S_) (FloatOps.maximumf (F := Ideal) (φ := .f32)) x
      (constant S_ .f32 0xFF800000#32) reducesTo_S8192x256_S256_d0 h_S_ (ix1 l)
    have h2 := reduces.fold_filter_drop_single (FloatOps.maximumf (F := Ideal) (φ := .f32)) (⊥ : EReal) x (ix1 l)
    have h3 : (constant (F := Ideal) S_ .f32 0xFF800000#32) (Shape.Idx.first h_S_) = (⊥ : EReal) := init_bot
    rw [h3] at h1
    refine h1.trans (h2.trans ?_)
    exact congrArg (fun f : Fin 8192 → EReal => (Finset.univ : Finset (Fin 8192)).fold max ⊥ f) hx
  rw [e]; exact top_fold (by decide) _

/-! ### The pair of value and row -/

/-- `a` is at least as good as `b`: greater, or as great and not later. -/
def Good (a b : EReal × BitVec 32) : Prop := b.1 ≤ a.1 ∧ (b.1 = a.1 → a.2.toInt ≤ b.2.toInt)

/-- A pair is as good as itself. -/
theorem Good.refl (a : EReal × BitVec 32) : Good a a := ⟨le_rfl, fun _ => le_rfl⟩

/-- Being as good as is transitive. -/
theorem Good.trans {a b c : EReal × BitVec 32} (h : Good a b) (g : Good b c) : Good a c :=
  ⟨g.1.trans h.1, fun e => by
    have e' : b.1 = a.1 := le_antisymm h.1 (e ▸ g.1)
    exact (h.2 e').trans (g.2 (e.trans e'.symm))⟩

/-- The reducer picks the better of its two pairs. -/
theorem pick (a b : EReal × BitVec 32) :
    (reducer_argmax_f32_i32 (F := Ideal) a b = a ∨ reducer_argmax_f32_i32 (F := Ideal) a b = b)
      ∧ Good (reducer_argmax_f32_i32 (F := Ideal) a b) a ∧ Good (reducer_argmax_f32_i32 (F := Ideal) a b) b := by
  obtain ⟨v, i⟩ := a
  obtain ⟨w, j⟩ := b
  have e : reducer_argmax_f32_i32 (F := Ideal) (v, i) (w, j)
      = if w < v ∨ (v = w ∧ i.toInt < j.toInt) then (v, i) else (w, j) := by
    have hs : i.slt j = decide (i.toInt < j.toInt) := BitVec.slt_eq_decide
    unfold reducer_argmax_f32_i32
    simp only [Ideal.cmpf_def, Ideal.cmp, IntOp.cmpi, IntOp.ori, IntOp.andi, Scalar.select]
    rcases lt_trichotomy w v with h | h | h
    · simp [h, h.ne']
    · subst h
      by_cases hij : i.toInt < j.toInt <;> simp [hs, hij]
    · simp [not_lt.2 h.le, h.ne]
  rw [e]
  split
  · next h =>
    refine ⟨.inl rfl, Good.refl _, ?_⟩
    rcases h with h | ⟨h, h'⟩
    · exact ⟨h.le, fun q => absurd q h.ne⟩
    · exact ⟨h.ge, fun _ => h'.le⟩
  · next h =>
    refine ⟨.inr rfl, ?_, Good.refl _⟩
    have h1 : v ≤ w := not_lt.1 fun q => h (.inl q)
    exact ⟨h1, fun q => not_lt.1 fun q' => h (.inr ⟨q, q'⟩)⟩

/-- So a left fold of it ends at the best of the start and the list. -/
theorem fold_pick (l : List (EReal × BitVec 32)) : ∀ a : EReal × BitVec 32,
    (l.foldl (reducer_argmax_f32_i32 (F := Ideal)) a = a ∨ l.foldl (reducer_argmax_f32_i32 (F := Ideal)) a ∈ l)
      ∧ Good (l.foldl (reducer_argmax_f32_i32 (F := Ideal)) a) a
      ∧ ∀ q ∈ l, Good (l.foldl (reducer_argmax_f32_i32 (F := Ideal)) a) q := by
  induction l with
  | nil => exact fun a => ⟨.inl rfl, Good.refl a, fun q h => absurd h List.not_mem_nil⟩
  | cons b l ih =>
    intro a
    obtain ⟨h1, h2, h3⟩ := ih (reducer_argmax_f32_i32 (F := Ideal) a b)
    obtain ⟨p1, p2, p3⟩ := pick a b
    rw [List.foldl_cons]
    refine ⟨?_, h2.trans p2, fun q hq => ?_⟩
    · rcases h1 with h1 | h1
      · rcases p1 with p1 | p1
        · exact .inl (h1.trans p1)
        · exact .inr (List.mem_cons.2 (.inl (h1.trans p1)))
      · exact .inr (List.mem_cons_of_mem _ h1)
    · rcases List.mem_cons.1 hq with rfl | hq
      · exact h2.trans p3
      · exact h3 q hq

/-- A row's number as a word, read back. -/
theorem word_val {k : Nat} (h : k < 8192) : (BitVec.ofNat 32 k).toInt = (k : Int) := by
  rw [BitVec.toInt_ofNat']
  exact Int.bmod_eq_of_le (by omega) (by omega)

/-- The pairs folded over for column `l` are those of its rows. -/
theorem mem_fiber (x : Vec Ideal S8192x256 .f32) (l : Fin 256) (p : EReal × BitVec 32) :
    p ∈ Host.argReduceFiber x (iotaInDim S8192x256 32 0) reducesTo_S8192x256_S256_d0 (ix1 l)
      ↔ ∃ n : Fin 8192, p = (col x l n, BitVec.ofNat 32 n.val) := by
  unfold Host.argReduceFiber
  simp only [List.mem_map, List.mem_filter, List.mem_finRange, true_and, decide_eq_true_eq]
  constructor
  · rintro ⟨i, hi, rfl⟩
    obtain ⟨n, hn⟩ := of_drop hi
    exact ⟨n, by rw [hn]; rfl⟩
  · rintro ⟨n, rfl⟩
    exact ⟨S8192x256.rowMajor (ix2 n l), by rw [Equiv.symm_apply_apply]; exact drop_of n l, by
      rw [Equiv.symm_apply_apply]; rfl⟩

/-- The start of the fold. -/
theorem init_eq : ((constant (F := Ideal) S_ .f32 0xFF800000#32) (Shape.Idx.first h_S_),
    (constantI S_ 32 0#32) (Shape.Idx.first h_S_)) = ((⊥ : EReal), 0#32) :=
  congrArg (fun v : EReal => (v, 0#32)) init_bot

/-- The pair of value and row is a left fold of the reducer over the column's pairs. -/
theorem pair_eq (x : Vec Ideal S8192x256 .f32) (l : Fin 256) :
    pair x (ix1 l) = (Host.argReduceFiber x (iotaInDim S8192x256 32 0) reducesTo_S8192x256_S256_d0 (ix1 l)).foldl
      (reducer_argmax_f32_i32 (F := Ideal)) (⊥, 0#32) := by
  rw [← init_eq]
  exact (congrFun (Ideal.argReduce_eq_reduce2 (reducer_argmax_f32_i32 (F := Ideal)) x (iotaInDim S8192x256 32 0)
    (constant S_ .f32 0xFF800000#32) (constantI S_ 32 0#32) reducesTo_S8192x256_S256_d0 h_S_) (ix1 l)).trans
    (Host.reduce2_eq_foldl_fiber (reducer_argmax_f32_i32 (F := Ideal)) x (iotaInDim S8192x256 32 0)
      (constant S_ .f32 0xFF800000#32) (constantI S_ 32 0#32) reducesTo_S8192x256_S256_d0 h_S_ (ix1 l))

/-- The second result is the number of the least row holding the column's greatest element. -/
theorem row_spec (x : Vec Ideal S8192x256 .f32) (l : Fin 256) {k : Nat} (hk : First (col x l) (top x (ix1 l)) k) :
    (row x (ix1 l)).toInt = (k : Int) := by
  have ht := top_spec x l
  have e : row x (ix1 l) = ((Host.argReduceFiber x (iotaInDim S8192x256 32 0) reducesTo_S8192x256_S256_d0 (ix1 l)).foldl
      (reducer_argmax_f32_i32 (F := Ideal)) (⊥, 0#32)).2 := congrArg Prod.snd (pair_eq x l)
  rw [e]
  obtain ⟨h1, h2, h3⟩ := fold_pick (Host.argReduceFiber x (iotaInDim S8192x256 32 0) reducesTo_S8192x256_S256_d0 (ix1 l)) (⊥, 0#32)
  generalize (Host.argReduceFiber x (iotaInDim S8192x256 32 0) reducesTo_S8192x256_S256_d0 (ix1 l)).foldl
      (reducer_argmax_f32_i32 (F := Ideal)) (⊥, 0#32) = p at h1 h2 h3 ⊢
  have h3' : ∀ n : Fin 8192, Good p (col x l n, BitVec.ofNat 32 n.val) := fun n => h3 _ ((mem_fiber x l _).2 ⟨n, rfl⟩)
  obtain ⟨hlt, hv⟩ := hk.1
  have hkp := h3' ⟨k, hlt⟩
  rcases h1 with h1 | h1
  · -- every element is the least value: row 0 is the answer
    subst h1
    have hbot : ∀ n, col x l n = ⊥ := fun n => le_bot_iff.1 (h3' n).1
    have h0 : k ≤ 0 := hk.2 ⟨0, by decide⟩ (by rw [hbot, ← hv, hbot])
    obtain rfl : k = 0 := by omega
    rfl
  · obtain ⟨n, rfl⟩ := (mem_fiber x l _).1 h1
    have hn : col x l n = top x (ix1 l) := le_antisymm (ht.1 n) (hv ▸ hkp.1)
    have h4 : k ≤ n.val := hk.2 n hn
    have h5 := hkp.2 (hv.trans hn.symm)
    rw [word_val n.isLt, word_val hlt] at h5
    show (BitVec.ofNat 32 n.val).toInt = _
    rw [word_val n.isLt]
    omega

/-! ### The result's two rows -/

/-- A vector as one row, read at an element. -/
theorem asRow (v : Vec Ideal S256 .f32) (l : Fin 256) :
    broadcastInDim S1x256 ![1] bcast_S256_S1x256_1 v (ix2 (0 : Fin 1) l) = v (ix1 l) :=
  broadcastInDim_apply ![1] bcast_S256_S1x256_1 v (ix2 (0 : Fin 1) l) (ix1 l) (fun a => by
    match a with
    | ⟨0, _⟩ => rfl)

/-- The upper of two rows. -/
theorem stack_zero (a b : Vec Ideal S1x256 .f32) (l : Fin 256) :
    stack a b (ix2 (0 : Fin 2) l) = a (ix2 (0 : Fin 1) l) := by
  unfold stack
  refine concatenate_pair_apply_left (t := S2x256) (s₁ := S1x256) (s₂ := S1x256) 0 a b
    concatenates_S1x256_S1x256_S2x256_d0 (ix2 (0 : Fin 2) l) rfl (ix2 (0 : Fin 1) l) (fun c => ?_)
  match c with
  | ⟨0, _⟩ => rfl
  | ⟨1, _⟩ => rfl

/-- The lower of two rows. -/
theorem stack_one (a b : Vec Ideal S1x256 .f32) (l : Fin 256) :
    stack a b (ix2 (1 : Fin 2) l) = b (ix2 (0 : Fin 1) l) := by
  unfold stack
  refine concatenate_pair_apply_right (t := S2x256) (s₁ := S1x256) (s₂ := S1x256) 0 a b
    concatenates_S1x256_S1x256_S2x256_d0 (ix2 (1 : Fin 2) l) rfl rfl (ix2 (0 : Fin 1) l) (fun c hc => ?_) rfl
  match c with
  | ⟨0, _⟩ => exact absurd rfl hc
  | ⟨1, _⟩ => rfl

/-- Row 0 of the result. -/
theorem res_zero (x : Vec Ideal S8192x256 .f32) (l : Fin 256) : res x (ix2 (0 : Fin 2) l) = top x (ix1 l) :=
  (stack_zero _ _ l).trans (asRow (top x) l)

/-- Row 1 of the result. -/
theorem res_one (x : Vec Ideal S8192x256 .f32) (l : Fin 256) {k : Nat} (hk : First (col x l) (top x (ix1 l)) k) :
    res x (ix2 (1 : Fin 2) l) = ((k : ℝ) : EReal) := by
  refine ((stack_one _ _ l).trans (asRow (sitofp (F := Ideal) .f32 (row x)) l)).trans ?_
  show ((((row x (ix1 l)).toInt : ℝ)) : EReal) = _
  rw [row_spec x l hk]
  norm_cast

end RefRun

end
-- ==== Proof.Same.lean ====
/-
  The kernel's result and the reference's are the same array, when the devices' blocks are the whole array's.
-/
module

public import proofs.«01_k».proof.Proof.Value
public import proofs.«01_k».proof.Proof.RefValue
public import Idealize.ShloMosaic.Lib.Layout

@[expose] public section

noncomputable section

namespace Peer

open Idealize.ShloMosaic Idealize.ShloMosaic.TcCoe Idealize.ShloMosaic.ValueIdx

/-- The blocks stacked are the array they were cut from, column by column. -/
theorem whole_eq (x : Blocks Ideal) (X : Vec Ideal ⟨2, ![8192, 256]⟩ .f32)
    (hx : ∀ c, x c = Layout.block ⟨2, ![256, 256]⟩ ⟨2, ![8192, 256]⟩ 0 32 c X) (l : Fin 256) :
    whole x l = RefRun.col X l := by
  funext n
  obtain ⟨b, r, rfl⟩ := stacked_surj n
  rw [whole_place, hx b, Layout.block_apply]
  refine congrArg X (funext fun a => Fin.ext ?_)
  match a with
  | ⟨0, _⟩ =>
    refine (Layout.idx_rows_val _ b (ix2 r l)).1.trans ?_
    show b.val * 256 + r.val = 256 * b.val + r.val
    omega
  | ⟨1, _⟩ => exact (Layout.idx_rows_val _ b (ix2 r l)).2

/-- Every device's result is the reference's result on the whole array. -/
theorem out_res (x : Blocks Ideal) (X : Vec Ideal ⟨2, ![8192, 256]⟩ .f32)
    (hx : ∀ c, x c = Layout.block ⟨2, ![256, 256]⟩ ⟨2, ![8192, 256]⟩ 0 32 c X) (c : Fin 32) :
    out x c = RefRun.res X := by
  have h0 : ∀ l, out x c (ix2 (0 : Fin 2) l) = RefRun.top X (ix1 l) := fun l =>
    Top.unique (whole_eq x X hx l ▸ out_top x c l) (RefRun.top_spec X l)
  funext i
  obtain ⟨a, l, rfl⟩ := ex2 i
  match a with
  | ⟨0, _⟩ => exact (h0 l).trans (RefRun.res_zero X l).symm
  | ⟨1, _⟩ =>
    obtain ⟨k, hk⟩ := first_exists (RefRun.top_spec X l)
    have hk' : First (whole x l) (out x c (ix2 (0 : Fin 2) l)) k := by rw [whole_eq x X hx l, h0 l]; exact hk
    exact (out_first x c l hk').trans (RefRun.res_one X l hk).symm

end Peer

end
-- ==== Proof.lean ====
/-
  The certificate: the kernel's frame at bits and at extended reals and the reference's, that the idealized kernel is
  the kernel's own text, and that on extended reals every device's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel on bits runs to its end, its argument unchanged and its counters at zero. -/
theorem frame_kernel : Cert.quiescent_Kernel (hKernel := Cert.Kernel.Gen.facts) := fun m ρ _ =>
  (θ_run Cert.KernelIdeal.defs _ _).mono (fun _ h => ⟨fun c => (h.1 c).1, h.2⟩) (Peer.run_main (F := Bits) m ρ)

/-- The kernel on extended reals runs to its end, its argument unchanged and its counters at zero. -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (Peer.run_main (F := Ideal) m ρ)

/-- The reference runs to its end, its argument unchanged and its counters at zero. -/
theorem frame_referenceIdeal : Cert.quiescent_ReferenceIdeal (hReferenceIdeal := Cert.ReferenceIdeal.Gen.facts) :=
  fun m ρ _ =>
    (θ_run Cert.ReferenceIdeal.defs _ _).mono (fun _ h => ⟨fun c => (h.1 c).2, h.2⟩) (RefRun.run (F := Ideal) m ρ)

/-- The idealized kernel is the kernel's own text. -/
theorem preserves : Cert.preserves_Kernel_KernelIdeal := trivial

/-- On extended reals every device's result is the reference's result on the whole array. -/
theorem algebraic : Cert.algebraic_KernelIdeal_ReferenceIdeal (hKernelIdeal := Cert.KernelIdeal.Gen.facts)
    (hReferenceIdeal := Cert.ReferenceIdeal.Gen.facts) := fun m g m' g' _ hx =>
  ⟨RefRun.res (F := Ideal) (m' (((0 : Dev Cert.ReferenceIdeal.nD).tc :
      Thread Cert.ReferenceIdeal.nD Cert.ReferenceIdeal.τ).loc Cert.ReferenceIdeal.main_arg0)),
    (θ_run Cert.KernelIdeal.defs _ _).mono
      (fun _ h c => ⟨(h.1 c).2.trans (Peer.out_res (Peer.xs m) _ hx c), (h.1 c).1⟩) (Peer.run_main (F := Ideal) m g),
    (θ_run Cert.ReferenceIdeal.defs _ _).mono (fun _ h => h.1 0) (RefRun.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
